-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2x256x4096 : Shape := ⟨3, ![2, 256, 4096]⟩
abbrev S6 : Shape := ⟨1, ![6]⟩
abbrev S_ : Shape := ⟨0, ![]⟩
abbrev S2 : Shape := ⟨1, ![2]⟩
abbrev S8 : Shape := ⟨1, ![8]⟩
abbrev S1 : Shape := ⟨1, ![1]⟩
abbrev S1x256x4096 : Shape := ⟨3, ![1, 256, 4096]⟩
abbrev S256x4096 : Shape := ⟨2, ![256, 4096]⟩
abbrev S1024x256 : Shape := ⟨2, ![1024, 256]⟩
abbrev S256x2048 : Shape := ⟨2, ![256, 2048]⟩

abbrev nBuf : Space → Nat
  | .hbm => 3
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x2048, .f32⟩
  | .local _ .vmem, ⟨8, _⟩ => ⟨S2x256x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 3 36 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v18 : BitVec 32 := Scalar.muli v2 c1024_i32
  let c0_i32_17 : BitVec 32 := 0#32
  ![v18.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_282 : BitVec 32 := 4#32
  let v256 : BitVec 32 := Scalar.addi v2 c4_i32_282
  let c1_i32_283 : BitVec 32 := 1#32
  let v257 : BitVec 32 := Scalar.subi v256 c1_i32_283
  let c4_i32_284 : BitVec 32 := 4#32
  let v258 : BitVec 32 := Scalar.remsi v257 c4_i32_284
  let c1024_i32_285 : BitVec 32 := 1024#32
  let v259 : BitVec 32 := Scalar.muli v258 c1024_i32_285
  let c0_i32_287 : BitVec 32 := 0#32
  ![v259.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_288 : BitVec 32 := 1#32
  let v263 : BitVec 32 := Scalar.addi v2 c1_i32_288
  let c4_i32_289 : BitVec 32 := 4#32
  let v264 : BitVec 32 := Scalar.remsi v263 c4_i32_289
  let c1024_i32_290 : BitVec 32 := 1024#32
  let v265 : BitVec 32 := Scalar.muli v264 c1024_i32_290
  let c0_i32_292 : BitVec 32 := 0#32
  ![v265.toNat, 0]
def k0_dev3 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_309 : BitVec 32 := 1#32
  let v284 : BitVec 32 := Scalar.muli v7 c1_i32_309
  let v285 : BitVec 32 := Scalar.addi c0_i32_310 v284
  v285.toNat
def k0_dev4 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_313 : BitVec 32 := 1#32
  let v290 : BitVec 32 := Scalar.muli v5 c1_i32_313
  let v291 : BitVec 32 := Scalar.addi c0_i32_314 v290
  v291.toNat
def k0_off4 (d0 : Dev nD) (c0_i32_597 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v533 : BitVec 32 := Scalar.subi v2 c0_i32_597
  let c2_i32_598 : BitVec 32 := 2#32
  let v534 : BitVec 32 := Scalar.subi v533 c2_i32_598
  let c8_i32 : BitVec 32 := 8#32
  let v535 : BitVec 32 := Scalar.addi v534 c8_i32
  let c4_i32_599 : BitVec 32 := 4#32
  let v536 : BitVec 32 := Scalar.remsi v535 c4_i32_599
  let c1024_i32_600 : BitVec 32 := 1024#32
  let v537 : BitVec 32 := Scalar.muli v536 c1024_i32_600
  let c0_i32_602 : BitVec 32 := 0#32
  ![v537.toNat, 0]
def k0_off5 (d0 : Dev nD) (c0_i32_603 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v541 : BitVec 32 := Scalar.addi v2 c0_i32_603
  let c2_i32_604 : BitVec 32 := 2#32
  let v542 : BitVec 32 := Scalar.addi v541 c2_i32_604
  let c4_i32_605 : BitVec 32 := 4#32
  let v543 : BitVec 32 := Scalar.remsi v542 c4_i32_605
  let c1024_i32_606 : BitVec 32 := 1024#32
  let v544 : BitVec 32 := Scalar.muli v543 c1024_i32_606
  let c0_i32_608 : BitVec 32 := 0#32
  ![v544.toNat, 0]
def k0_dev5 (d0 : Dev nD) : Nat :=
  let c0_i32_643 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_642 : BitVec 32 := 1#32
  let v579 : BitVec 32 := Scalar.muli v5 c1_i32_642
  let v580 : BitVec 32 := Scalar.addi c0_i32_643 v579
  v580.toNat
def k0_dev6 (d0 : Dev nD) : Nat :=
  let c0_i32_646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_645 : BitVec 32 := 1#32
  let v581 : BitVec 32 := Scalar.muli v7 c1_i32_645
  let v582 : BitVec 32 := Scalar.addi c0_i32_646 v581
  v582.toNat
def k0_dev7 (d0 : Dev nD) : Nat :=
  let c0_i32_662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_661 : BitVec 32 := 1#32
  let v593 : BitVec 32 := Scalar.muli v7 c1_i32_661
  let v594 : BitVec 32 := Scalar.addi c0_i32_662 v593
  v594.toNat
def k0_dev8 (d0 : Dev nD) : Nat :=
  let c0_i32_666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_665 : BitVec 32 := 1#32
  let v599 : BitVec 32 := Scalar.muli v5 c1_i32_665
  let v600 : BitVec 32 := Scalar.addi c0_i32_666 v599
  v600.toNat
def k0_dev9 (d0 : Dev nD) : Nat :=
  let c0_i32_996 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_995 : BitVec 32 := 1#32
  let v888 : BitVec 32 := Scalar.muli v5 c1_i32_995
  let v889 : BitVec 32 := Scalar.addi c0_i32_996 v888
  v889.toNat
def k0_dev10 (d0 : Dev nD) : Nat :=
  let c0_i32_999 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_998 : BitVec 32 := 1#32
  let v890 : BitVec 32 := Scalar.muli v7 c1_i32_998
  let v891 : BitVec 32 := Scalar.addi c0_i32_999 v890
  v891.toNat
def k0_dev11 (d0 : Dev nD) : Nat :=
  let c0_i32_1015 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1014 : BitVec 32 := 1#32
  let v902 : BitVec 32 := Scalar.muli v7 c1_i32_1014
  let v903 : BitVec 32 := Scalar.addi c0_i32_1015 v902
  v903.toNat
def k0_dev12 (d0 : Dev nD) : Nat :=
  let c0_i32_1019 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1018 : BitVec 32 := 1#32
  let v908 : BitVec 32 := Scalar.muli v5 c1_i32_1018
  let v909 : BitVec 32 := Scalar.addi c0_i32_1019 v908
  v909.toNat
def k0_dev13 (d0 : Dev nD) : Nat :=
  let c0_i32_1330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1329 : BitVec 32 := 1#32
  let v1177 : BitVec 32 := Scalar.muli v5 c1_i32_1329
  let v1178 : BitVec 32 := Scalar.addi c0_i32_1330 v1177
  v1178.toNat
def k0_dev14 (d0 : Dev nD) : Nat :=
  let c0_i32_1333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1332 : BitVec 32 := 1#32
  let v1179 : BitVec 32 := Scalar.muli v7 c1_i32_1332
  let v1180 : BitVec 32 := Scalar.addi c0_i32_1333 v1179
  v1180.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1334 : BitVec 32 := 1#32
  let v1181 : BitVec 32 := Scalar.addi v2 c1_i32_1334
  let c4_i32_1335 : BitVec 32 := 4#32
  let v1182 : BitVec 32 := Scalar.remsi v1181 c4_i32_1335
  let c1024_i32_1337 : BitVec 32 := 1024#32
  let v1185 : BitVec 32 := Scalar.muli v1182 c1024_i32_1337
  let c0_i32_1339 : BitVec 32 := 0#32
  ![v1185.toNat, 0]
def k0_off7 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1183 : BitVec 32 := Scalar.addi v2 c3_i32
  let c4_i32_1336 : BitVec 32 := 4#32
  let v1184 : BitVec 32 := Scalar.remsi v1183 c4_i32_1336
  let c1024_i32_1340 : BitVec 32 := 1024#32
  let v1189 : BitVec 32 := Scalar.muli v1184 c1024_i32_1340
  let c2048_i32 : BitVec 32 := 2048#32
  ![v1189.toNat, 2048]
def k0_dev15 (d0 : Dev nD) : Nat :=
  let c0_i32_1357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1356 : BitVec 32 := 1#32
  let v1203 : BitVec 32 := Scalar.muli v7 c1_i32_1356
  let v1204 : BitVec 32 := Scalar.addi c0_i32_1357 v1203
  v1204.toNat
def k0_dev16 (d0 : Dev nD) : Nat :=
  let c0_i32_1361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1360 : BitVec 32 := 1#32
  let v1209 : BitVec 32 := Scalar.muli v5 c1_i32_1360
  let v1210 : BitVec 32 := Scalar.addi c0_i32_1361 v1209
  v1210.toNat
def k0_dev17 (d0 : Dev nD) : Nat :=
  let c0_i32_1378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1377 : BitVec 32 := 1#32
  let v1227 : BitVec 32 := Scalar.muli v5 c1_i32_1377
  let v1228 : BitVec 32 := Scalar.addi c0_i32_1378 v1227
  v1228.toNat
def k0_dev18 (d0 : Dev nD) : Nat :=
  let c0_i32_1381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1380 : BitVec 32 := 1#32
  let v1229 : BitVec 32 := Scalar.muli v7 c1_i32_1380
  let v1230 : BitVec 32 := Scalar.addi c0_i32_1381 v1229
  v1230.toNat
def k0_off8 (d0 : Dev nD) (c0_i32_1390 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1241 : BitVec 32 := Scalar.subi v2 c0_i32_1390
  let c8_i32_1391 : BitVec 32 := 8#32
  let v1242 : BitVec 32 := Scalar.addi v1241 c8_i32_1391
  let c4_i32_1392 : BitVec 32 := 4#32
  let v1243 : BitVec 32 := Scalar.remsi v1242 c4_i32_1392
  let c1024_i32_1395 : BitVec 32 := 1024#32
  let v1246 : BitVec 32 := Scalar.muli v1243 c1024_i32_1395
  let c0_i32_1397 : BitVec 32 := 0#32
  ![v1246.toNat, 0]
def k0_dev19 (d0 : Dev nD) : Nat :=
  let c0_i32_1408 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1407 : BitVec 32 := 1#32
  let v1254 : BitVec 32 := Scalar.muli v7 c1_i32_1407
  let v1255 : BitVec 32 := Scalar.addi c0_i32_1408 v1254
  v1255.toNat
def k0_dev20 (d0 : Dev nD) : Nat :=
  let c0_i32_1412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1411 : BitVec 32 := 1#32
  let v1260 : BitVec 32 := Scalar.muli v5 c1_i32_1411
  let v1261 : BitVec 32 := Scalar.addi c0_i32_1412 v1260
  v1261.toNat
def k0_dev21 (d0 : Dev nD) : Nat :=
  let c0_i32_1429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1428 : BitVec 32 := 1#32
  let v1278 : BitVec 32 := Scalar.muli v5 c1_i32_1428
  let v1279 : BitVec 32 := Scalar.addi c0_i32_1429 v1278
  v1279.toNat
def k0_dev22 (d0 : Dev nD) : Nat :=
  let c0_i32_1432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1431 : BitVec 32 := 1#32
  let v1280 : BitVec 32 := Scalar.muli v7 c1_i32_1431
  let v1281 : BitVec 32 := Scalar.addi c0_i32_1432 v1280
  v1281.toNat
def k0_dev23 (d0 : Dev nD) : Nat :=
  let c0_i32_1462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1461 : BitVec 32 := 1#32
  let v1311 : BitVec 32 := Scalar.muli v7 c1_i32_1461
  let v1312 : BitVec 32 := Scalar.addi c0_i32_1462 v1311
  v1312.toNat
def k0_dev24 (d0 : Dev nD) : Nat :=
  let c0_i32_1466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1465 : BitVec 32 := 1#32
  let v1317 : BitVec 32 := Scalar.muli v5 c1_i32_1465
  let v1318 : BitVec 32 := Scalar.addi c0_i32_1466 v1317
  v1318.toNat
-- ==== ReferenceIdeal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
  The kernel's body, written once more as a short program over named steps.

  The printed body is one long straight line.  Here the same line is put together from the steps the kernel is made of:
  the blocks of `B` loaded into two alternating slots, one accumulation step, one product of a chunk of rows, the sends and
  waits of one hop of the ring in each of the two directions, and the stores of the result.  `body_eq` says that the printed
  body is this program.
-/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- The two directions of the ring: clockwise sends to the right neighbour, counter-clockwise to the left one. -/
inductive Dir | cw | ccw
  deriving DecidableEq

instance : Fintype Dir := ⟨{.cw, .ccw}, fun d => by cases d <;> decide⟩

/-- The programs of a TensorCore of this kernel. -/
abbrev KProg (F : FTy → Type) [FloatOps F] (X : Type) : Type 1 := Prog (TpuEff nD τ sig (Elt F) Λ₀ .tc) X

/-! ## Buffers -/

abbrev accM : Dir → Memref sig .tc .vmem S1024x2048 .f32
  | .cw => Memref.whole cc0_scratch0
  | .ccw => Memref.whole cc0_scratch1

abbrev sndM : Dir → Memref sig .tc .vmem S1024x2048 .bf16
  | .cw => Memref.whole cc0_scratch2
  | .ccw => Memref.whole cc0_scratch4

abbrev rcvM : Dir → Memref sig .tc .vmem S1024x2048 .bf16
  | .cw => Memref.whole cc0_scratch3
  | .ccw => Memref.whole cc0_scratch5

abbrev chM : Dir → Memref sig .tc .vmem S1024x2048 .f32
  | .cw => Memref.whole cc0_scratch6
  | .ccw => Memref.whole cc0_scratch7

theorem inb_slot : ∀ p : Fin 2, ∀ a, (![p.val, 0, 0] : Fin 3 → Nat) a + S1x256x4096.size a ≤ S2x256x4096.size a := by decide
theorem inb_row : ∀ kk : Fin 8, ∀ a, (![256 * kk.val, 0] : Fin 2 → Nat) a + S256x4096.size a ≤ S2048x4096.size a := by decide
theorem inb_ak : ∀ kk : Fin 8, ∀ a, (![0, 256 * kk.val] : Fin 2 → Nat) a + S1024x256.size a ≤ S1024x2048.size a := by decide
theorem inb_half : ∀ d : Dir, ∀ a, (![0, match d with | .cw => 0 | .ccw => 2048] : Fin 2 → Nat) a + S256x2048.size a ≤ S256x4096.size a := by
  intro d; cases d <;> decide

/-- Slot `p` of the two that blocks of `B` are loaded into. -/
abbrev bSlot (p : Fin 2) : Memref sig .tc .vmem S256x4096 .f32 :=
  ((Memref.whole cc0_scratch8 : Memref sig .tc .vmem S2x256x4096 .f32).slice
    (Rect.unit (s := S2x256x4096) ![p.val, 0, 0] S1x256x4096.size (inb_slot p)) (fun _ => rfl)).squeeze S256x4096 squeezes_S1x256x4096_S256x4096

/-- Rows `256·kk …` of this device's `B`. -/
abbrev bRow (kk : Fin 8) : Memref sig .tc .hbm S256x4096 .f32 :=
  (Memref.whole main_arg1 : Memref sig .tc .hbm S2048x4096 .f32).slice
    (Rect.unit (s := S2048x4096) ![256 * kk.val, 0] S256x4096.size (inb_row kk)) (fun _ => rfl)

/-- The rows of this device's `A` at an offset. -/
abbrev aRows (off : Fin 2 → Nat) (h : ∀ a, off a + S1024x2048.size a ≤ S4096x2048.size a) : Memref sig .tc .hbm S1024x2048 .f32 :=
  (Memref.whole main_arg0 : Memref sig .tc .hbm S4096x2048 .f32).slice (Rect.unit (s := S4096x2048) off S1024x2048.size h) (fun _ => rfl)

/-- The block of the result at an offset. -/
abbrev oBlk (off : Fin 2 → Nat) (h : ∀ a, off a + S1024x2048.size a ≤ S4096x4096.size a) : Memref sig .tc .hbm S1024x2048 .f32 :=
  (Memref.whole main_v1 : Memref sig .tc .hbm S4096x4096 .f32).slice (Rect.unit (s := S4096x4096) off S1024x2048.size h) (fun _ => rfl)

abbrev fullR : Rect S1024x2048 := Rect.unit (s := S1024x2048) ![0, 0] S1024x2048.size inb_S1024x2048_S1024x2048_0_0
abbrev akR (kk : Fin 8) : Rect S1024x2048 := Rect.unit (s := S1024x2048) ![0, 256 * kk.val] S1024x256.size (inb_ak kk)
abbrev halfR (d : Dir) : Rect S256x4096 :=
  Rect.unit (s := S256x4096) ![0, match d with | .cw => 0 | .ccw => 2048] S256x2048.size (inb_half d)

/-! ## Semaphores -/

abbrev barSem : Sem sig := (SemArray.scalar (sig.barrier 0 rfl) : Sems sig S_).sem
abbrev crSem : Dir → Sem sig
  | .cw => ⟨0, by decide⟩
  | .ccw => ⟨1, by decide⟩
abbrev ssSem : Dir → Fin 6 → DmaSem sig
  | .cw, k => ⟨k.val, by have := k.isLt; show k.val < 36; omega⟩
  | .ccw, k => ⟨12 + k.val, by have := k.isLt; show 12 + k.val < 36; omega⟩
abbrev rsSem : Dir → Fin 6 → DmaSem sig
  | .cw, k => ⟨6 + k.val, by have := k.isLt; show 6 + k.val < 36; omega⟩
  | .ccw, k => ⟨18 + k.val, by have := k.isLt; show 18 + k.val < 36; omega⟩
abbrev aSem : Dir → DmaSem sig
  | .cw => ⟨24, by decide⟩
  | .ccw => ⟨25, by decide⟩
abbrev bSem (p : Fin 2) : DmaSem sig := ⟨26 + p.val, by have := p.isLt; show 26 + p.val < 36; omega⟩
abbrev stSem : Dir → Fin 4 → DmaSem sig
  | .cw, j => ⟨28 + 2 * j.val, by have := j.isLt; show 28 + 2 * j.val < 36; omega⟩
  | .ccw, j => ⟨29 + 2 * j.val, by have := j.isLt; show 29 + 2 * j.val < 36; omega⟩

/-! ## Values -/

/-- The first product of a chunk: rows of `A` times a block of `B`. -/
def mmPay (a : Vec F S1024x256 .f32) (b : Vec F S256x2048 .f32) : FVec F S1024x2048 .f32 :=
  matmul dot_S1024x256_S256x2048_S1024x2048_1_0_0_1_n_n none a b (constant S1024x2048 .f32 0x00000000#32)

/-- What the first step stores. -/
def pay0 (a : Vec F S1024x256 .f32) (b : Vec F S256x2048 .f32) : FVec F S1024x2048 .f32 :=
  shapeCast S1024x2048 (mmPay a b) shapeCasts_S1024x2048_S1024x2048

/-- What a later step stores. -/
def payS (x : Vec F S1024x2048 .f32) (a : Vec F S1024x256 .f32) (b : Vec F S256x2048 .f32) : FVec F S1024x2048 .f32 :=
  shapeCast S1024x2048 (addf x (mmPay a b)) shapeCasts_S1024x2048_S1024x2048

/-- An accumulator narrowed for the wire. -/
def payT (x : Vec F S1024x2048 .f32) : FVec F S1024x2048 .bf16 :=
  shapeCast S1024x2048 (truncf .bf16 x bitsLt_bf16_f32) shapeCasts_S1024x2048_S1024x2048

/-- A received block widened. -/
def payE (y : Vec F S1024x2048 .bf16) : FVec F S1024x2048 .f32 :=
  shapeCast S1024x2048 (extf .f32 y bitsLt_bf16_f32) shapeCasts_S1024x2048_S1024x2048

/-- An accumulator plus a received block. -/
def payR (x : Vec F S1024x2048 .f32) (y : Vec F S1024x2048 .bf16) : FVec F S1024x2048 .f32 :=
  shapeCast S1024x2048 (addf x (extf .f32 y bitsLt_bf16_f32)) shapeCasts_S1024x2048_S1024x2048

/-! ## Steps -/

abbrev loadF {e : EltTy} (m : Memref sig .tc .vmem S1024x2048 e) : KProg F (Vec F S1024x2048 e) :=
  Prog.lift (.load m fullR.toLoadRect (View.loadsAt_vmem h_S1024x2048))
abbrev storeF (m : Memref sig .tc .vmem S1024x2048 .f32) (w : Vec F S1024x2048 .f32) : KProg F PUnit :=
  Prog.lift (.store m fullR w Finset.univ (View.stores_vmem_bits_univ h_S1024x2048 rfl) (.inl rfl))
abbrev storeH (m : Memref sig .tc .vmem S1024x2048 .bf16) (hm : m.IsWhole) (w : Vec F S1024x2048 .bf16) : KProg F PUnit :=
  Prog.lift (.store m fullR w Finset.univ
    (View.stores_vmem h_S1024x2048 (hm.storeExact_slice rfl _ packedbf16_S1024x2048_S1024x2048_0_0) (fun _ => rfl)) (.inl rfl))

def slotOf (kk : Fin 8) : Fin 2 := ⟨kk.val % 2, Nat.mod_lt _ (by decide)⟩

def startB (kk : Fin 8) : KProg F PUnit :=
  Prog.lift (.enqueueDma (bRow kk) (.here (bSlot (slotOf kk))) (.dma (bSem (slotOf kk))) (View.wordExact_bits rfl)
    ((View.wordExact_bits rfl).reshape _ _) ⟨Or.inl rfl, trivial⟩)
def waitB (kk : Fin 8) : KProg F PUnit :=
  Prog.lift (.waitDma2 (bSem (slotOf kk)) (bRow kk) (bSlot (slotOf kk)) (View.wordExact_bits rfl) ((View.wordExact_bits rfl).reshape _ _))

abbrev loadA (m : Memref sig .tc .vmem S1024x2048 .f32) (kk : Fin 8) : KProg F (Vec F S1024x256 .f32) :=
  Prog.lift (.load m (akR kk).toLoadRect (View.loadsAt_vmem h_S1024x256))
abbrev loadB (p : Fin 2) (d : Dir) : KProg F (Vec F S256x2048 .f32) :=
  Prog.lift (.load (bSlot p) (halfR d).toLoadRect (View.loadsAt_vmem h_S256x2048))

/-- The first step of a product: both accumulators are set. -/
def mmFirst (x y : Dir) : KProg F PUnit := do
  startB 1
  waitB 0
  let a ← loadA (chM x) 0
  let b ← loadB (slotOf 0) .cw
  let a' ← loadA (chM y) 0
  let b' ← loadB (slotOf 0) .ccw
  let _ ← loadF (accM .cw)
  storeF (accM .cw) (pay0 a b)
  let _ ← loadF (accM .ccw)
  storeF (accM .ccw) (pay0 a' b')

/-- The part of a later step after its loads have been started and waited for. -/
def mmAcc (x y : Dir) (kk : Fin 8) : KProg F PUnit := do
  let a ← loadA (chM x) kk
  let b ← loadB (slotOf kk) .cw
  let a' ← loadA (chM y) kk
  let b' ← loadB (slotOf kk) .ccw
  let v ← loadF (accM .cw)
  let _ ← loadF (accM .cw)
  storeF (accM .cw) (payS v a b)
  let v' ← loadF (accM .ccw)
  let _ ← loadF (accM .ccw)
  storeF (accM .ccw) (payS v' a' b')

/-- A later step that still has a block to load. -/
def mmNext (x y : Dir) (kk kk' : Fin 8) : KProg F PUnit := do
  startB kk'
  waitB kk
  mmAcc x y kk

/-- The product of one chunk of rows in each direction, the first block of `B` already on its way. -/
def mmAll (x y : Dir) : KProg F PUnit := do
  mmFirst x y
  mmNext x y 1 2
  mmNext x y 2 3
  mmNext x y 3 4
  mmNext x y 4 5
  mmNext x y 5 6
  mmNext x y 6 7
  waitB 7
  mmAcc x y 7

def startA (d : Dir) (off : Fin 2 → Nat) (h : ∀ a, off a + S1024x2048.size a ≤ S4096x2048.size a) : KProg F PUnit :=
  Prog.lift (.enqueueDma (aRows off h) (.here (chM d)) (.dma (aSem d)) (View.wordExact_bits rfl) (View.wordExact_bits rfl) ⟨Or.inl rfl, trivial⟩)
def waitA (d : Dir) (off : Fin 2 → Nat) (h : ∀ a, off a + S1024x2048.size a ≤ S4096x2048.size a) : KProg F PUnit :=
  Prog.lift (.waitDma2 (aSem d) (aRows off h) (chM d) (View.wordExact_bits rfl) (View.wordExact_bits rfl))

theorem whole_snd : ∀ d, (sndM d).IsWhole := fun d => match d with | .cw => Memref.isWhole_whole _ | .ccw => Memref.isWhole_whole _
theorem whole_rcv : ∀ d, (rcvM d).IsWhole := fun d => match d with | .cw => Memref.isWhole_whole _ | .ccw => Memref.isWhole_whole _

/-- The buffer hop `k` lands in. -/
abbrev dstM (d : Dir) : Fin 6 → Memref sig .tc .vmem S1024x2048 .bf16
  | ⟨4, _⟩ => sndM d
  | _ => rcvM d
/-- The buffer hop `k` sends. -/
abbrev srcM (d : Dir) : Fin 6 → Memref sig .tc .vmem S1024x2048 .bf16
  | ⟨4, _⟩ => rcvM d
  | _ => sndM d

theorem whole_dst (d : Dir) (k : Fin 6) : (dstM d k).IsWhole := by
  unfold dstM; split; exacts [whole_snd d, whole_rcv d]
theorem whole_src (d : Dir) (k : Fin 6) : (srcM d k).IsWhole := by
  unfold srcM; split; exacts [whole_rcv d, whole_snd d]

def send (d : Dir) (k : Fin 6) (nb : Dev nD) : KProg F PUnit :=
  Prog.lift (.enqueueDma (srcM d k) (.remote (Dev.tc nb) (dstM d k) (.dma (ssSem d k))) (.dma (rsSem d k))
    (whole_src d k).wordExact (whole_dst d k).wordExact ⟨⟨rfl, Or.inl rfl⟩, trivial⟩)
def waitSnd (d : Dir) (k : Fin 6) : KProg F PUnit :=
  Prog.lift (.waitDma2 (ssSem d k) (dstM d k) (srcM d k) (whole_dst d k).wordExact (whole_src d k).wordExact)
def waitRcv (d : Dir) (k : Fin 6) : KProg F PUnit :=
  Prog.lift (.waitDma2 (rsSem d k) (srcM d k) (dstM d k) (whole_src d k).wordExact (whole_dst d k).wordExact)
def waitHop (k : Fin 6) : KProg F PUnit := do
  waitSnd .cw k
  waitRcv .cw k
  waitSnd .ccw k
  waitRcv .ccw k

def giveCr (d : Dir) (nb : Dev nD) : KProg F PUnit := semSignalWord nb (crSem d) 1#32
def takeCr (d : Dir) : KProg F PUnit := semWaitWord (crSem d) 1#32

/-- An accumulator narrowed into the send buffer. -/
def narrow (d : Dir) : KProg F PUnit := do
  let v ← loadF (accM d)
  let _ ← loadF (sndM d)
  storeH (sndM d) (whole_snd d) (payT v)

/-- A received block added into the accumulator. -/
def addRcv (d : Dir) : KProg F PUnit := do
  let v ← loadF (accM d)
  let w ← loadF (rcvM d)
  let _ ← loadF (accM d)
  storeF (accM d) (payR v w)

/-- A received block widened into a staging buffer. -/
def widen (src : Memref sig .tc .vmem S1024x2048 .bf16) (dst : Memref sig .tc .vmem S1024x2048 .f32) : KProg F PUnit := do
  let w ← loadF src
  let _ ← loadF dst
  storeF dst (payE w)

theorem whole_acc : ∀ d, (accM d).IsWhole := fun d => match d with | .cw => Memref.isWhole_whole _ | .ccw => Memref.isWhole_whole _
theorem whole_ch : ∀ d, (chM d).IsWhole := fun d => match d with | .cw => Memref.isWhole_whole _ | .ccw => Memref.isWhole_whole _

/-- The buffer that store `j` reads: the accumulator for this device's own chunk, then the staging buffers. -/
abbrev stgM (d : Dir) : Fin 4 → Memref sig .tc .vmem S1024x2048 .f32
  | ⟨0, _⟩ => accM d
  | ⟨2, _⟩ => accM d
  | _ => chM d
theorem whole_stg (d : Dir) (j : Fin 4) : (stgM d j).IsWhole := by
  unfold stgM; split; exacts [whole_acc d, whole_acc d, whole_ch d]

def startO (d : Dir) (j : Fin 4) (off : Fin 2 → Nat) (h : ∀ a, off a + S1024x2048.size a ≤ S4096x4096.size a) : KProg F PUnit :=
  Prog.lift (.enqueueDma (stgM d j) (.here (oBlk off h)) (.dma (stSem d j)) (whole_stg d j).wordExact (View.wordExact_bits rfl) ⟨Or.inl rfl, trivial⟩)
def waitO (d : Dir) (j : Fin 4) (off : Fin 2 → Nat) (h : ∀ a, off a + S1024x2048.size a ≤ S4096x4096.size a) : KProg F PUnit :=
  Prog.lift (.waitDma2 (stSem d j) (stgM d j) (oBlk off h) (whole_stg d j).wordExact (View.wordExact_bits rfl))

/-! ## The body -/

def entry (c : Dev nD) : KProg F PUnit := do
  semSignalWord (⟨k0_dev1 c, k0_dev1_lt c⟩ : Dev nD) barSem 1#32
  semSignalWord (⟨k0_dev2 c, k0_dev2_lt c⟩ : Dev nD) barSem 1#32
  semWaitWord barSem 2#32

def local0 (c : Dev nD) : KProg F PUnit := do
  startB 0
  startA .cw (k0_off1 c) (k0_off1_inb c)
  waitA .cw (k0_off1 c) (k0_off1_inb c)
  mmAll .cw .cw
  startA .cw (k0_off2 c) (k0_off2_inb c)
  startA .ccw (k0_off3 c) (k0_off3_inb c)
  startB 0

def rs0 (c : Dev nD) : KProg F PUnit := do
  narrow .cw
  narrow .ccw
  send .cw 0 ⟨k0_dev3 c, k0_dev3_lt c⟩
  send .ccw 0 ⟨k0_dev4 c, k0_dev4_lt c⟩
  waitA .cw (k0_off2 c) (k0_off2_inb c)
  waitA .ccw (k0_off3 c) (k0_off3_inb c)
  mmAll .cw .ccw
  startA .cw (k0_off4 c 0#32) (k0_off4_inb c 0)
  startA .ccw (k0_off5 c 0#32) (k0_off5_inb c 0)
  startB 0
  waitHop 0
  addRcv .cw
  addRcv .ccw
  giveCr .cw ⟨k0_dev5 c, k0_dev5_lt c⟩
  giveCr .ccw ⟨k0_dev6 c, k0_dev6_lt c⟩

def rs1 (c : Dev nD) : KProg F PUnit := do
  narrow .cw
  narrow .ccw
  takeCr .cw
  takeCr .ccw
  send .cw 1 ⟨k0_dev7 c, k0_dev7_lt c⟩
  send .ccw 1 ⟨k0_dev8 c, k0_dev8_lt c⟩
  waitA .cw (k0_off4 c 0#32) (k0_off4_inb c 0)
  waitA .ccw (k0_off5 c 0#32) (k0_off5_inb c 0)
  mmAll .cw .ccw
  startA .cw (k0_off4 c 1#32) (k0_off4_inb c 1)
  startA .ccw (k0_off5 c 1#32) (k0_off5_inb c 1)
  startB 0
  waitHop 1
  addRcv .cw
  addRcv .ccw
  giveCr .cw ⟨k0_dev9 c, k0_dev9_lt c⟩
  giveCr .ccw ⟨k0_dev10 c, k0_dev10_lt c⟩

def rs2 (c : Dev nD) : KProg F PUnit := do
  narrow .cw
  narrow .ccw
  takeCr .cw
  takeCr .ccw
  send .cw 2 ⟨k0_dev11 c, k0_dev11_lt c⟩
  send .ccw 2 ⟨k0_dev12 c, k0_dev12_lt c⟩
  waitA .cw (k0_off4 c 1#32) (k0_off4_inb c 1)
  waitA .ccw (k0_off5 c 1#32) (k0_off5_inb c 1)
  mmAll .cw .ccw
  waitHop 2
  addRcv .cw
  addRcv .ccw
  giveCr .cw ⟨k0_dev13 c, k0_dev13_lt c⟩
  giveCr .ccw ⟨k0_dev14 c, k0_dev14_lt c⟩

def ag0 (c : Dev nD) : KProg F PUnit := do
  startO .cw 0 (k0_off6 c) (k0_off6_inb c)
  startO .ccw 0 (k0_off7 c 3#32) (k0_off7_inb c 3)
  narrow .cw
  narrow .ccw
  takeCr .cw
  takeCr .ccw
  send .cw 3 ⟨k0_dev15 c, k0_dev15_lt c⟩
  send .ccw 3 ⟨k0_dev16 c, k0_dev16_lt c⟩
  waitHop 3
  giveCr .cw ⟨k0_dev17 c, k0_dev17_lt c⟩
  giveCr .ccw ⟨k0_dev18 c, k0_dev18_lt c⟩
  widen (rcvM .cw) (chM .cw)
  widen (rcvM .ccw) (chM .ccw)
  startO .cw 1 (k0_off8 c 0#32) (k0_off8_inb c 0)
  startO .ccw 1 (k0_off7 c 0#32) (k0_off7_inb c 0)

def ag1 (c : Dev nD) : KProg F PUnit := do
  takeCr .cw
  takeCr .ccw
  send .cw 4 ⟨k0_dev19 c, k0_dev19_lt c⟩
  send .ccw 4 ⟨k0_dev20 c, k0_dev20_lt c⟩
  waitHop 4
  giveCr .cw ⟨k0_dev21 c, k0_dev21_lt c⟩
  giveCr .ccw ⟨k0_dev22 c, k0_dev22_lt c⟩
  waitO .cw 0 (k0_off6 c) (k0_off6_inb c)
  waitO .ccw 0 (k0_off7 c 3#32) (k0_off7_inb c 3)
  widen (sndM .cw) (accM .cw)
  widen (sndM .ccw) (accM .ccw)
  startO .cw 2 (k0_off8 c 1#32) (k0_off8_inb c 1)
  startO .ccw 2 (k0_off7 c 1#32) (k0_off7_inb c 1)

def ag2 (c : Dev nD) : KProg F PUnit := do
  takeCr .cw
  takeCr .ccw
  send .cw 5 ⟨k0_dev23 c, k0_dev23_lt c⟩
  send .ccw 5 ⟨k0_dev24 c, k0_dev24_lt c⟩
  waitHop 5
  waitO .cw 1 (k0_off8 c 0#32) (k0_off8_inb c 0)
  waitO .ccw 1 (k0_off7 c 0#32) (k0_off7_inb c 0)
  widen (rcvM .cw) (chM .cw)
  widen (rcvM .ccw) (chM .ccw)
  startO .cw 3 (k0_off8 c 2#32) (k0_off8_inb c 2)
  startO .ccw 3 (k0_off7 c 2#32) (k0_off7_inb c 2)

def finish (c : Dev nD) : KProg F PUnit := do
  waitO .cw 2 (k0_off8 c 1#32) (k0_off8_inb c 1)
  waitO .ccw 2 (k0_off7 c 1#32) (k0_off7_inb c 1)
  waitO .cw 3 (k0_off8 c 2#32) (k0_off8_inb c 2)
  waitO .ccw 3 (k0_off7 c 2#32) (k0_off7_inb c 2)

/-- The body of device `c`. -/
def prog (c : Dev nD) : KProg F PUnit := do
  entry c
  local0 c
  rs0 c
  rs1 c
  rs2 c
  ag0 c
  ag1 c
  ag2 c
  finish c

/-- The printed body is the program above at the firing device. -/
theorem body_eq (t : Fin cfg0.N) : bodyAt0 (F := F) t = (Prog.lift .deviceId >>= fun c => prog c) := by
  chain_rfl

end Cert.KernelIdeal.Ring

end
-- ==== Proof.Steps.lean ====
/-
  The rules for the steps that one device takes by itself: loads, stores, and copies between its own memories.

  A buffer, or a part of one, is held by `owns`: the elements of a memref at a share, and what the memref reads.
-/
module

public import proofs.«01_k».proof.Proof.Program
public import Idealize.ShloMosaic.Lib.Pipeline.Launch
public import Idealize.ShloMosaic.Lib.Pipeline.Kit
public import Idealize.ShloMosaic.Lib.Pipeline.TalkSites
public import Idealize.ShloMosaic.Lib.Transfers
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ghost state: the launch's own, the ring's rounds, and counters for local copies -/

abbrev UB : Type := URounds (GSem nD τ sig) Dir
abbrev UU : Type := UR sig nD τ × (UB × Counters)
/-- The algebra of the proof; wait indices are the numbers of rounds. -/
abbrev MR (F : FTy → Type) [FloatOps F] : Type := MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (τ := τ) (sig := sig) (Ix := ℕ) (Val := Elt F) (Name := ℕ) (U := UU) (Lvl := ℕ)).toEmb
instance ER_landsIn : (ER : Emb UB (MR F)).LandsIn (upEmb : UEmb _ (MR F)) := by unfold ER; infer_instance
abbrev EC : UEmb Counters (MT nD τ sig ℕ (Elt F) ℕ UU ℕ) := countersEmb

abbrev 𝒱₀ : Variants := Variants.none

/-- The weakest precondition of a program of device `c`. -/
abbrev WP {α : Type} (c : Dev nD) (p : KProg F α) (Q : α → sProp (MR F)) : sProp (MR F) :=
  wp frame (wpE (defs₀ (F := F)) 𝒱₀ (c : Thread nD τ) none) Set.univ p Q

/-- Device `c` holds memref `m`, reading `X`. -/
abbrev Own (c : Dev nD) {sp : Space} {s : Shape} {e : EltTy} (m : Memref sig .tc sp s e) (q : PosShare TreeShare) (X : Vec F s e) : sProp (MR F) :=
  owns (c : Thread nD τ) m q X

/-- Device `c` holds all of memref `m`, whatever it reads. -/
def Some (c : Dev nD) {sp : Space} {s : Shape} {e : EltTy} (m : Memref sig .tc sp s e) : sProp (MR F) :=
  iprop(∃ X : Vec F s e, Own c m fullShare X)

instance Some_storable (c : Dev nD) {sp : Space} {s : Shape} {e : EltTy} (m : Memref sig .tc sp s e) :
    BI.Storable (upEmb : UEmb _ (MR F)) (Some (F := F) c m) := by unfold Some; infer_instance

section Rules

variable {c : Dev nD} {α : Type} {Q : α → sProp (MR F)} {sp : Space} {s : Shape} {e : EltTy}

theorem some_intro {m : Memref sig .tc sp s e} {X : Vec F s e} : Own c m fullShare X ⊢ Some c m := by
  unfold Some; iintro H; iexists X; iexact H

/-- A share of a buffer is two halves of it. -/
theorem own_halves {m : Memref sig .tc sp s e} {q : PosShare TreeShare} {X : Vec F s e} :
    Own c m q X ⊢ iprop(Own c m q.left X ∗ Own c m q.right X) := by
  unfold Own owns
  iintro ⟨%f, %hf, H⟩
  ihave H := (pointsTo_share (PosShare.mem_left_op_right q)).1 $$ H
  icases H with ⟨H1, H2⟩
  isplitl [H1]
  · iexists f; isplitr; · ipureintro; exact hf
    iexact H1
  · iexists f; isplitr; · ipureintro; exact hf
    iexact H2

/-- Two halves of a buffer that read the same are the whole share. -/
theorem own_join {m : Memref sig .tc sp s e} {q : PosShare TreeShare} {X : Vec F s e} :
    iprop(Own c m q.left X ∗ Own c m q.right X) ⊢ Own c m q X := by
  unfold Own owns
  iintro ⟨⟨%f, %hf, H1⟩, ⟨%g, %hg, H2⟩⟩
  ihave H2 := (Entails.of_eq (pointsTo_congr (show ∀ i ∈ m.view.set, g i = f i from ?_))) $$ H2
  · intro i hi
    obtain ⟨x, -, rfl⟩ := Finset.mem_map.mp hi
    have h := congrFun (hg.trans hf.symm) x
    rw [View.read_apply, View.read_apply] at h
    exact (cast_inj _).mp h
  iexists f; isplitr; · ipureintro; exact hf
  iapply (pointsTo_share (PosShare.mem_left_op_right q)).2
  isplitl [H1] <;> iassumption

/-- A load through a rectangle reads the held contents there. -/
theorem load_step {cs : CoreSpace} {m : Memref sig .tc cs s e} {r : Rect s} {hl : m.view.LoadsAt r.toLoadRect} {q : PosShare TreeShare} {X : Vec F s e}
    {k : (r.toLoadRect.shape.Idx → Elt F e) → KProg F α} :
    Own c m q X ⊢ iprop((Own c m q X -∗ WP c (k fun i => X (r.emb i)) Q) -∗ WP c (Prog.lift (.load m r.toLoadRect hl) >>= k) Q) := by
  unfold Own owns
  iintro ⟨%f, %hf, H⟩ Hk
  simp only [Prog.lift, Prog.bind_op, Prog.bind_ret]
  iapply (wp_load 𝒱₀ (c : Thread nD τ) none Set.univ (m := m) (View.setOn_subset_set _ _)) $$ H
  iintro H
  rw [show m.view.readAt (Elt F) r.toLoadRect f = fun i => X (r.emb i) from by rw [← hf]; rfl]
  iapply Hk
  iexists f
  isplitr; · ipureintro; exact hf
  iexact H

theorem fullR_emb (i : fullR.shape.Idx) : fullR.emb i = i := by
  funext a
  refine Fin.ext ?_
  show (![0, 0] : Fin 2 → Nat) a + 1 * (i a).val = (i a).val
  have : (![0, 0] : Fin 2 → Nat) a = 0 := by revert a; decide
  rw [this]; omega

/-- A load of the whole buffer. -/
theorem loadF_step {m : Memref sig .tc .vmem S1024x2048 e} {q : PosShare TreeShare} {X : Vec F S1024x2048 e} {k : Vec F S1024x2048 e → KProg F α} :
    Own c m q X ⊢ iprop((Own c m q X -∗ WP c (k X) Q) -∗ WP c (loadF m >>= k) Q) := by
  have h := load_step (c := c) (m := m) (r := fullR) (hl := View.loadsAt_vmem h_S1024x2048) (q := q) (X := X) (k := k) (Q := Q)
  rwa [show (fun i => X (fullR.emb i)) = X from funext fun i => congrArg X (fullR_emb i)] at h

/-- A store of the whole buffer. -/
theorem store_step {m : Memref sig .tc .vmem S1024x2048 e} {w : Vec F S1024x2048 e} {hx : (m.access fullR).Stores Finset.univ}
    {hm : (Finset.univ : Finset fullR.shape.Idx) = Finset.univ ∨ ∀ a, fullR.stride a = 1} {k : PUnit → KProg F α} :
    Some c m ⊢ iprop((Own c m fullShare w -∗ WP c (k ⟨⟩) Q) -∗ WP c (Prog.lift (.store m fullR w Finset.univ hx hm) >>= k) Q) := by
  unfold Some Own owns
  iintro ⟨%X, %f, %hf, H⟩ Hk
  simp only [Prog.lift, Prog.bind_op, Prog.bind_ret]
  iapply (wp_store 𝒱₀ (c : Thread nD τ) none Set.univ (m := m) (r := fullR) (View.set_slice_subset _ _)) $$ H
  iintro H
  iapply Hk
  iexists _
  isplitr
  · ipureintro
    refine funext fun x => ?_
    have h := View.read_slice_write_emb (v := m.view) fullR f w (x := x) (Finset.mem_univ x)
    rw [fullR_emb] at h
    exact h
  iexact H

theorem storeF_step {m : Memref sig .tc .vmem S1024x2048 .f32} {w : Vec F S1024x2048 .f32} {k : PUnit → KProg F α} :
    Some c m ⊢ iprop((Own c m fullShare w -∗ WP c (k ⟨⟩) Q) -∗ WP c (storeF m w >>= k) Q) := store_step

theorem storeH_step {m : Memref sig .tc .vmem S1024x2048 .bf16} {hm : m.IsWhole} {w : Vec F S1024x2048 .bf16} {k : PUnit → KProg F α} :
    Some c m ⊢ iprop((Own c m fullShare w -∗ WP c (k ⟨⟩) Q) -∗ WP c (storeH m hm w >>= k) Q) := store_step

/-- A local copy on its way on semaphore `sm`, to deliver `D`. -/
abbrev Flying (c : Dev nD) (sm : DmaSem sig) (N : ℕ) (D : sProp (MR F)) : sProp (MR F) := Transfers.Flight EC (c : Thread nD τ) (.dma sm) 0 N D

/-- A local copy starts: it will deliver the target reading what the source reads, and the source. -/
theorem start_step {sp' : Space} {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : PUnit → KProg F α} {q : PosShare TreeShare} {X : Vec F s e} (hs : 0 < s.numel) :
    iprop(Own c src q X ∗ Some c dst ∗ semVal ((c : Thread nD τ), SemLoc.dma sm) 0)
      ⊢ iprop((Flying c sm dst.view.dmaCredit iprop(Own c dst fullShare X ∗ Own c src q X) -∗ WP c (k ⟨⟩) Q)
          -∗ WP c (Prog.lift (.enqueueDma src (.here dst) (.dma sm) hsrc hdst hsem) >>= k) Q) := by
  unfold Some Own
  iintro ⟨Hs, ⟨%Y, Hd⟩, Hv⟩ Hk
  ihave Hs := (Entails.of_eq (show owns (c : Thread nD τ) src q X = iprop(∃ f, ⌜src.view.read (Elt F) f = X⌝ ∗ (src.view.loc (c : Thread nD τ) ↦[src.view.set]{q} f)) from rfl)) $$ Hs
  ihave Hd := (Entails.of_eq (show owns (c : Thread nD τ) dst fullShare Y = iprop(∃ f, ⌜dst.view.read (Elt F) f = Y⌝ ∗ (dst.view.loc (c : Thread nD τ) ↦[dst.view.set]{fullShare} f)) from rfl)) $$ Hd
  icases Hs with ⟨%fs, %hfs, Hs⟩
  icases Hd with ⟨%fd, %hfd, Hd⟩
  simp only [Prog.lift, Prog.bind_op, Prog.bind_ret]
  iapply (Transfers.wp_dmaLocal EC 𝒱₀ (c : Thread nD τ) none (src := src) (dst := dst) (sm := .dma sm) (via := .same) 0 dst.view.dmaCredit rfl (View.dmaCredit_pos _ hs) subset_rfl) $$ [Hs Hd Hv]
  · isplitl [Hs]; · iexact Hs
    isplitl [Hd]; · iexact Hd
    iexact Hv
  iintro Hfl
  iapply Hk
  iapply (Transfers.Flight_mono EC (c : Thread nD τ) ?_) $$ Hfl
  unfold owns
  iintro ⟨Hd, Hs⟩
  isplitl [Hd]
  · iexists (dst.view.write (Elt F) fd (src.view.read (Elt F) fs) Finset.univ); isplitr
    · ipureintro; exact (View.read_write_univ _ _).trans hfs
    iexact Hd
  iexists fs; isplitr; · ipureintro; exact hfs
  iexact Hs

/-- A device owes `O`. -/
def Owes (c : Dev nD) (O : CellTallies nD τ sig ℕ) : sProp (MR F) := iprop(∃ W, owes (c : Thread nD τ) O W)

/-- The wait for a local copy: what it delivers, and the semaphore at zero again. -/
theorem wait_step {sp' : Space} {s' : Shape} {e' : EltTy} {src : Memref sig .tc sp' s' e'} {dst : Memref sig .tc sp s e} {sm : DmaSem sig}
    {hsrc : src.view.WordExact} {hdst : dst.view.WordExact} {k : PUnit → KProg F α} {N : ℕ} {D : sProp (MR F)} {O : CellTallies nD τ sig ℕ}
    (hN : dst.view.dmaCredit = N) :
    iprop(Flying c sm N D ∗ Owes c O ∗ MayWait (c : Thread nD τ) (.dma sm) 0 O)
      ⊢ iprop(((D ∗ semVal ((c : Thread nD τ), SemLoc.dma sm) 0 ∗ Owes c O) -∗ WP c (k ⟨⟩) Q)
          -∗ WP c (Prog.lift (.waitDma2 sm src dst hsrc hdst) >>= k) Q) := by
  unfold Owes
  iintro ⟨Hf, ⟨%W, HO⟩, Hw⟩ Hk
  simp only [Prog.lift, Prog.bind_op, Prog.bind_ret]
  iapply (Transfers.wp_waitLocalO EC 𝒱₀ (c : Thread nD τ) none (srcw := src) (dstw := dst) 0 hN) $$ [Hf HO Hw]
  · isplitl [Hf]; · iexact Hf
    isplitl [HO]; · iexact HO
    iexact Hw
  iintro ⟨HD, Hv, HO⟩
  iapply Hk
  isplitl [HD]; · iexact HD
  isplitl [Hv]; · iexact Hv
  iexists _; iexact HO

end Rules

end Cert.KernelIdeal.Ring

end
-- ==== Proof.Contents.lean ====
/-
  The ring of the four devices, and the contents of every buffer at every stage, as functions of the memory at launch.
-/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL Pay tallyL_pos)
open Cert.KernelIdeal Cert.KernelIdeal.Gen

variable {F : FTy → Type} [FloatOps F]

/-! ## The ring -/

def Dir.opp : Dir → Dir
  | .cw => .ccw
  | .ccw => .cw

/-- The neighbour that direction `d` sends to. -/
def nb : Dir → Dev nD → Dev nD
  | .cw, c => ⟨(c.val + 1) % 4, Nat.mod_lt _ (by decide)⟩
  | .ccw, c => ⟨(c.val + 3) % 4, Nat.mod_lt _ (by decide)⟩

/-- The neighbour that direction `d` receives from. -/
def prv (d : Dir) (c : Dev nD) : Dev nD := nb d.opp c

theorem nb_prv (d : Dir) (c : Dev nD) : nb d (prv d c) = c := by revert c; cases d <;> decide
theorem prv_nb (d : Dir) (c : Dev nD) : prv d (nb d c) = c := by revert c; cases d <;> decide
theorem opp_opp (d : Dir) : d.opp.opp = d := by cases d <;> rfl
theorem nb_opp_nb (d : Dir) (c : Dev nD) : nb d.opp (nb d c) = c := prv_nb d c
theorem nb_nb_opp (d : Dir) (c : Dev nD) : nb d (nb d.opp c) = c := nb_prv d c

/-- The chunk of rows that device `c` works on at stage `s` of direction `d`. -/
def chunk (d : Dir) (s : ℕ) (c : Dev nD) : Dev nD := (prv d)^[s] c

/-! ## Contents -/

variable (m : (ℓ : Loc nD τ sig) → Buf (Elt F) ℓ)

def rowOff (q : Dev nD) : Fin 2 → ℕ := ![1024 * q.val, 0]
theorem rowOff_inb (q : Dev nD) : ∀ a, rowOff q a + S1024x2048.size a ≤ S4096x2048.size a := by revert q; decide
/-- The rows of chunk `q` of `A`. -/
abbrev aM (q : Dev nD) : Memref sig .tc .hbm S1024x2048 .f32 := aRows (rowOff q) (rowOff_inb q)

def blkOff (d : Dir) (q : Dev nD) : Fin 2 → ℕ := ![1024 * q.val, match d with | .cw => 0 | .ccw => 2048]
theorem blkOff_inb (d : Dir) (q : Dev nD) : ∀ a, blkOff d q a + S1024x2048.size a ≤ S4096x4096.size a := by revert q; cases d <;> decide
/-- The block of the result in chunk `q` of the rows and the half of the columns that belongs to direction `d`. -/
abbrev oM (d : Dir) (q : Dev nD) : Memref sig .tc .hbm S1024x2048 .f32 := oBlk (blkOff d q) (blkOff_inb d q)

/-- Chunk `q` of device `c`'s `A`, -/
def aV (c q : Dev nD) : Vec F S1024x2048 .f32 := (aM q).view.read (Elt F) (m ((c : Thread nD τ).loc main_arg0))
/-- and rows `256 kk …` of its `B`. -/
def bV (c : Dev nD) (kk : Fin 8) : Vec F S256x4096 .f32 := (bRow kk).view.read (Elt F) (m ((c : Thread nD τ).loc main_arg1))

/-- The columns of a chunk of `A` that meet block `kk` of `B`, -/
def aPart (A : Vec F S1024x2048 .f32) (kk : Fin 8) : Vec F S1024x256 .f32 := fun i => A ((akR kk).emb i)
/-- and the half of the columns of a block of `B`. -/
def bPart (B : Vec F S256x4096 .f32) (d : Dir) : Vec F S256x2048 .f32 := fun i => B ((halfR d).emb i)

/-- One accumulation step. -/
def stepV (A : Vec F S1024x2048 .f32) (B : Fin 8 → Vec F S256x4096 .f32) (d : Dir) (kk : Fin 8) (x : Vec F S1024x2048 .f32) :
    Vec F S1024x2048 .f32 := payS x (aPart A kk) (bPart (B kk) d)
/-- The first one. -/
def firstV (A : Vec F S1024x2048 .f32) (B : Fin 8 → Vec F S256x4096 .f32) (d : Dir) : Vec F S1024x2048 .f32 :=
  pay0 (aPart A 0) (bPart (B 0) d)
/-- The product of a chunk of rows with a half of the columns, summed over the eight blocks in order. -/
def prodV (A : Vec F S1024x2048 .f32) (B : Fin 8 → Vec F S256x4096 .f32) (d : Dir) : Vec F S1024x2048 .f32 :=
  stepV A B d 7 (stepV A B d 6 (stepV A B d 5 (stepV A B d 4 (stepV A B d 3 (stepV A B d 2 (stepV A B d 1 (firstV A B d)))))))

/-- Device `c`'s own part of chunk `q` in the columns of direction `d`. -/
def part (d : Dir) (q c : Dev nD) : Vec F S1024x2048 .f32 := prodV (aV m c q) (bV m c) d

/-- Device `c`'s accumulator after `s` hops. -/
def accV (d : Dir) : ℕ → Dev nD → Vec F S1024x2048 .f32
  | 0, c => part m d c c
  | s + 1, c => payR (part m d (chunk d (s + 1) c) c) (payT (accV d s (prv d c)))

/-- What device `c` sends at hop `k`: its accumulator narrowed, then what it has received. -/
def sentV (d : Dir) : ℕ → Dev nD → Vec F S1024x2048 .bf16
  | 0, c => payT (accV m d 0 c)
  | 1, c => payT (accV m d 1 c)
  | 2, c => payT (accV m d 2 c)
  | 3, c => payT (accV m d 3 c)
  | k + 4, c => sentV d (k + 3) (prv d c)

/-- What lands on device `c` at hop `k`. -/
def landV (d : Dir) (k : ℕ) (c : Dev nD) : Vec F S1024x2048 .bf16 := sentV m d k (prv d c)

/-- What device `c` leaves in the block of chunk `chunk d s c`: its own accumulator at `s = 3`, else what it has gathered. -/
def outV (d : Dir) (s : Fin 4) (c : Dev nD) : Vec F S1024x2048 .f32 :=
  match s with
  | ⟨0, _⟩ => payE (landV m d 3 c)
  | ⟨1, _⟩ => payE (landV m d 4 c)
  | ⟨2, _⟩ => payE (landV m d 5 c)
  | ⟨_, _⟩ => accV m d 3 c

end Cert.KernelIdeal.Ring

end
-- ==== Proof.Protocol.lean ====
/-
  The protocol between the devices.

  Four devices stand in a ring and send in both directions at once.  In direction `d` device `c` sends to `nb d c` and
  receives from `prv d c`.  The semaphores that carry the protocol, per device:

  - the barrier: one unit from each neighbour; `nb d c`'s unit hands `c` the buffer at `nb d c` that hop 0 lands in;
  - for each direction and hop a SEND semaphore: the copy engine hands the source buffer back;
  - for each direction and hop a RECEIVE semaphore: the copy of `prv d c` hands the landing buffer over with its contents, and
    the fact that `prv d c` has taken the credits of all its earlier hops;
  - for each direction a CREDIT semaphore, five rounds of one unit: in round `r` the unit of `nb d c` hands `c` the buffer at
    `nb d c` that hop `r + 1` lands in.

  A wait is allowed while everything still owed lies at a higher level: barrier 1, receive of hop `k` at `2 k + 2`, round `r` of
  a credit at `2 r + 3`, everything local at 0.
-/
module

public import proofs.«01_k».proof.Proof.Contents

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL Pay tallyL_pos)
open Cert.KernelIdeal Cert.KernelIdeal.Gen

variable {F : FTy → Type} [FloatOps F]

variable (m : (ℓ : Loc nD τ sig) → Buf (Elt F) ℓ)

/-! ## The cells -/

/-- The kinds of semaphore that carry the protocol: barrier, send, receive, credit. -/
abbrev CK : Type := Unit ⊕ (Dir × Fin 6) ⊕ (Dir × Fin 6) ⊕ Dir
abbrev kBar : CK := .inl ()
abbrev kSs (d : Dir) (k : Fin 6) : CK := .inr (.inl (d, k))
abbrev kRs (d : Dir) (k : Fin 6) : CK := .inr (.inr (.inl (d, k)))
abbrev kCr (d : Dir) : CK := .inr (.inr (.inr d))

def csem : CK → SemLoc sig
  | .inl _ => .reg barSem
  | .inr (.inl (d, k)) => .dma (ssSem d k)
  | .inr (.inr (.inl (d, k))) => .dma (rsSem d k)
  | .inr (.inr (.inr d)) => .reg (crSem d)

theorem csem_injective : Function.Injective csem := by decide

def kcell (x : Dev nD × CK) : GSem nD τ sig := ((x.1 : Thread nD τ), csem x.2)

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

open Classical in
/-- Which cell of the protocol a semaphore is. -/
def dec (g : GSem nD τ sig) : Option (Dev nD × CK) := if h : ∃ x, kcell x = g then .some h.choose else none

theorem dec_kcell (x : Dev nD × CK) : dec (kcell x) = .some x := by
  have h : ∃ y, kcell y = kcell x := ⟨x, rfl⟩
  unfold dec; rw [dif_pos h, kcell_injective h.choose_spec]

theorem dec_none {g : GSem nD τ sig} (h : ∀ x, kcell x ≠ g) : dec g = none := by
  unfold dec; rw [dif_neg]; rintro ⟨x, hx⟩; exact h x hx

/-- The units of one block on the wire. -/
def NN : ℕ := (rcvM .cw).view.dmaCredit
theorem NN_pos : 0 < NN := View.dmaCredit_pos _ h_S1024x2048
theorem credit_dst (d : Dir) (k : Fin 6) : (dstM d k).view.dmaCredit = NN := by
  unfold dstM; cases d <;> (split <;> rfl)
theorem credit_src (d : Dir) (k : Fin 6) : (srcM d k).view.dmaCredit = NN := by
  unfold srcM; cases d <;> (split <;> rfl)

/-- The landing buffer of the hop after credit round `r`. -/
abbrev dstR (d : Dir) (r : ℕ) : Memref sig .tc .vmem S1024x2048 .bf16 := dstM d (Fin.ofNat 6 (r + 1))

/-! ## The schedule -/

def dutC : CK → ℕ → Finset Dir
  | .inl _, r => if r = 0 then Finset.univ else ∅
  | .inr (.inr (.inr _)), r => if r < 5 then {.cw} else ∅
  | _, r => if r = 0 then {.cw} else ∅

def amtC : CK → ℕ
  | .inr (.inl _) => NN
  | .inr (.inr (.inl _)) => NN
  | _ => 1

def payC : Dev nD × CK → ℕ → Dir → sProp (MR F)
  | (c, .inl _), _, d => Some (nb d c) (rcvM d)
  | (c, .inr (.inl (d, k))), _, _ => Some c (srcM d k)
  | (c, .inr (.inr (.inl (d, k)))), _, _ => iprop(Own c (dstM d k) fullShare (landV m d k.val c) ∗ reached ER (kcell (prv d c, kCr d)) k.val)
  | (c, .inr (.inr (.inr d))), r, _ => Some (nb d c) (dstR d r)

instance payC_storable (x : Dev nD × CK) (r : ℕ) (d : Dir) : BI.Storable (upEmb : UEmb _ (MR F)) (payC m x r d) := by
  obtain ⟨c, _ | ⟨d', k⟩ | ⟨d', k⟩ | d'⟩ := x
  · exact inferInstanceAs (BI.Storable _ (Some (nb d c) (rcvM d)))
  · exact inferInstanceAs (BI.Storable _ (Some c (srcM d' k)))
  · exact inferInstanceAs (BI.Storable _ iprop(Own c (dstM d' k) fullShare (landV m d' k.val c) ∗ reached ER (kcell (prv d' c, kCr d')) k.val))
  · exact inferInstanceAs (BI.Storable _ (Some (nb d' c) (dstR d' r)))

theorem amtC_pos (k : CK) : 0 < amtC k := by
  obtain _ | _ | _ | _ := k <;> unfold amtC
  · exact Nat.one_pos
  · exact NN_pos
  · exact NN_pos
  · exact Nat.one_pos

def Rd : Rounds.Schedule (GSem nD τ sig) Dir (MR F) where
  duties g r := match dec g with | .some x => dutC x.2 r | none => ∅
  amount g _ _ := match dec g with | .some x => amtC x.2 | none => 1
  payload g r d := match dec g with | .some x => payC m x r d | none => iprop(emp)
  unitless _ := False
  amount_pos g _ _ _ := by
    cases h : dec g with
    | none => exact Nat.one_pos
    | some x => exact amtC_pos x.2

instance Rd_storable (g : GSem nD τ sig) (r : ℕ) (d : Dir) : BI.Storable (upEmb : UEmb _ (MR F)) ((Rd m).payload g r d) := by
  unfold Rd; dsimp only
  cases dec g with
  | none => dsimp only; infer_instance
  | some x => dsimp only; infer_instance

theorem duties_eq (x : Dev nD × CK) (r : ℕ) : (Rd m).duties (kcell x) r = dutC x.2 r := by
  show (match dec (kcell x) with | .some x => dutC x.2 r | none => ∅) = _
  rw [dec_kcell]
theorem amount_eq (x : Dev nD × CK) (r : ℕ) (d : Dir) : (Rd m).amount (kcell x) r d = amtC x.2 := by
  show (match dec (kcell x) with | .some x => amtC x.2 | none => 1) = _
  rw [dec_kcell]
theorem payload_eq (x : Dev nD × CK) (r : ℕ) (d : Dir) : (Rd m).payload (kcell x) r d = payC m x r d := by
  show (match dec (kcell x) with | .some x => payC m x r d | none => iprop(emp)) = _
  rw [dec_kcell]
theorem expect_eq (x : Dev nD × CK) (r : ℕ) : (Rd m).expect (kcell x) r = (dutC x.2 r).card * amtC x.2 := by
  unfold Schedule.expect Schedule.amountOf
  rw [duties_eq, Finset.sum_congr rfl fun d _ => amount_eq m x r d, Finset.sum_const, smul_eq_mul]

/-- The first round in which a cell has no duty left. -/
def lastC : CK → ℕ
  | .inr (.inr (.inr _)) => 5
  | _ => 1
theorem duties_later (x : Dev nD × CK) : ∀ r, lastC x.2 ≤ r → (Rd m).duties (kcell x) r = ∅ := by
  intro r hr
  rw [duties_eq]
  obtain ⟨c, _ | ⟨d', k⟩ | ⟨d', k⟩ | d'⟩ := x
  · exact if_neg (by have : 1 ≤ r := hr; omega)
  · exact if_neg (by have : 1 ≤ r := hr; omega)
  · exact if_neg (by have : 1 ≤ r := hr; omega)
  · exact if_neg (by have : 5 ≤ r := hr; omega)

/-! ## What is owed, and the levels -/

/-- One unit or block that a device owes: to its neighbour in which direction, on which cell, in which round. -/
abbrev Due : Type := Dir × CK × ℕ

def payOf (c : Dev nD) (x : Due) : Pay nD τ sig := (kcell (nb x.1 c, x.2.1), x.2.2, amtC x.2.1)
/-- The tally of a list of dues. -/
def dues (c : Dev nD) (l : List Due) : CellTallies nD τ sig ℕ := tallyL (l.map (payOf c))

theorem dues_cons (c : Dev nD) (x : Due) (l : List Due) :
    dues c (x :: l) = dues c l + tallyAt (kcell (nb x.1 c, x.2.1)) x.2.2 (amtC x.2.1) := by
  rw [add_comm]; rfl

/-- The dues of hop `k`, and the credits given after it, onward. -/
def dueHop (k : Fin 6) : List Due := [(.cw, kRs .cw k, 0), (.ccw, kRs .ccw k, 0)]
def dueCr (r : ℕ) : List Due := [(.ccw, kCr .cw, r), (.cw, kCr .ccw, r)]
def dues5 : List Due := dueHop 5
def dues4 : List Due := dueHop 4 ++ (dueCr 4 ++ dues5)
def dues3 : List Due := dueHop 3 ++ (dueCr 3 ++ dues4)
def dues2 : List Due := dueHop 2 ++ (dueCr 2 ++ dues3)
def dues1 : List Due := dueHop 1 ++ (dueCr 1 ++ dues2)
def dues0 : List Due := dueHop 0 ++ (dueCr 0 ++ dues1)
/-- Everything a device owes at launch, in the order in which it pays. -/
def duesAll : List Due := (.ccw, kBar, 0) :: (.cw, kBar, 0) :: dues0

def lvC : CK → ℕ → ℕ
  | .inl _, _ => 1
  | .inr (.inl _), _ => 0
  | .inr (.inr (.inl (_, k))), _ => 2 * k.val + 2
  | .inr (.inr (.inr _)), r => 2 * r + 3

def L (g : GSem nD τ sig) : Finset ℕ := if g.1.2 = .tc then Finset.range 6 else ∅
def lv (g : GSem nD τ sig) (i : ℕ) : ℕ := match dec g with | .some x => lvC x.2 i | none => 0

theorem L_of_ne (g : GSem nD τ sig) (h : g.1.2 ≠ .tc) : L g = ∅ := if_neg h
theorem lv_kcell (x : Dev nD × CK) (i : ℕ) : lv (kcell x) i = lvC x.2 i := by
  unfold lv; rw [dec_kcell]

/-- Everything in a list of dues lies above level `n`. -/
def Above (n : ℕ) (l : List Due) : Prop := ∀ x ∈ l, n < lvC x.2.1 x.2.2 ∧ x.2.2 < 6
instance (n : ℕ) (l : List Due) : Decidable (Above n l) := by unfold Above; infer_instance

theorem mayWait_of {c : Dev nD} {sm : SemLoc sig} {i n : ℕ} {l : List Due} (hi : i < 6) (hn : lv ((c : Thread nD τ), sm) i = n) (h : Above n l) :
    (levAts L lv : sProp (MR F)) ⊢ MayWait (c : Thread nD τ) sm i (dues c l) := by
  refine Pipeline.mayWait_of_levAts (by unfold L; rw [if_pos rfl]; exact Finset.mem_range.mpr hi) fun g j hg => ?_
  obtain ⟨p, hp, e1, e2⟩ := tallyL_pos hg
  obtain ⟨x, hx, rfl⟩ := List.mem_map.mp hp
  obtain ⟨h1, h2⟩ := h x hx
  subst e1; subst e2
  refine ⟨by unfold L; rw [if_pos (show (payOf c x).1.1.2 = Proc.tc from rfl)]; exact Finset.mem_range.mpr h2, ?_⟩
  rw [hn]
  show n < lv (kcell (nb x.1 c, x.2.1)) x.2.2
  rw [lv_kcell]; exact h1

/-- A semaphore outside the protocol lies at level 0. -/
theorem lv_local {c : Dev nD} {sm : SemLoc sig} (h : ∀ k, csem k ≠ sm) (i : ℕ) : lv ((c : Thread nD τ), sm) i = 0 := by
  have e : dec ((c : Thread nD τ), sm) = none := dec_none fun x hx => h x.2 (congrArg Prod.snd hx : csem x.2 = sm)
  unfold lv; rw [e]

/-- The wait for a local copy. -/
theorem mayWait_local {c : Dev nD} {sm : SemLoc sig} {l : List Due} (hs : ∀ k, csem k ≠ sm) (h : Above 0 l) :
    (levAts L lv : sProp (MR F)) ⊢ MayWait (c : Thread nD τ) sm 0 (dues c l) := mayWait_of (by decide) (lv_local hs 0) h
/-- The wait on a cell of the protocol. -/
theorem mayWait_cell {c : Dev nD} {k : CK} {i : ℕ} {l : List Due} (hi : i < 6) (h : Above (lvC k i) l) :
    (levAts L lv : sProp (MR F)) ⊢ MayWait (c : Thread nD τ) (csem k) i (dues c l) := mayWait_of hi (lv_kcell (c, k) i) h

end Cert.KernelIdeal.Ring

end
-- ==== Proof.Hops.lean ====
/-
  The rules for the steps that talk to another device: a signal, a send, and the waits, each once for any cell.

  `Γ K` is what every device may consult at any time: the invariants of all the cells, that round 0 of each is reached, and the
  levels.
-/
module

public import proofs.«01_k».proof.Proof.Protocol

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ) (K : Dev nD × CK → ℕ)

/-! ## Shared knowledge, and shorthands for what a device holds -/

abbrev Inv (x : Dev nD × CK) : sProp (MR F) := cellInv ER (Rd m) (K x) (kcell x)
/-- The right to pay duty `d` of round `r` of a cell, once. -/
abbrev Tok (x : Dev nD × CK) (r : ℕ) (d : Dir) : sProp (MR F) := dutyTok ER (kcell x) r d
/-- A cell's owner has taken the rounds before `r`. -/
abbrev At (x : Dev nD × CK) (r : ℕ) : sProp (MR F) := atPos ER (kcell x) r ∅ 0
/-- Round `r` of a cell is reached. -/
abbrev Rch (x : Dev nD × CK) (r : ℕ) : sProp (MR F) := reached ER (kcell x) r
/-- The right to wait for `n` units of round `i` of a cell. -/
abbrev Crd (x : Dev nD × CK) (i n : ℕ) : sProp (MR F) := cred (tallyAt (kcell x) i n)
/-- A semaphore of `c`, at zero and out of use. -/
abbrev Zero (c : Dev nD) (s : SemLoc sig) : sProp (MR F) := semVal ((c : Thread nD τ), s) 0

def Γ : sProp (MR F) :=
  iprop(bigSep Finset.univ (Inv m K) ∗ bigSep Finset.univ (fun x : Dev nD × CK => Rch (F := F) x 0) ∗ levAts L lv)

instance Γ_persistent : BI.Persistent (Γ m K) := by unfold Γ; infer_instance

theorem Γ_inv (x : Dev nD × CK) : Γ m K ⊢ Inv m K x := by
  unfold Γ; iintro ⟨H, -, -⟩; iapply (show bigSep Finset.univ (Inv m K) ⊢ Inv m K x from bigSep_elim (Finset.mem_univ x)) $$ H
theorem Γ_rch (x : Dev nD × CK) : Γ m K ⊢ Rch x 0 := by
  unfold Γ; iintro ⟨-, H, -⟩; iapply (show bigSep Finset.univ (fun x : Dev nD × CK => Rch (F := F) x 0) ⊢ Rch x 0 from bigSep_elim (Finset.mem_univ x)) $$ H
theorem Γ_lev : Γ m K ⊢ levAts L lv := by
  unfold Γ; iintro ⟨-, -, H⟩; iexact H

section Rules

variable {m K}
variable {c : Dev nD} {α : Type} {Q : α → sProp (MR F)} {l : List Due}

/-- A signal that pays the first of what is owed. -/
theorem signal_step {e d : Dir} {ck : CK} {r : ℕ} {sem : Sem sig} {k : PUnit → KProg F α}
    (hs : csem ck = .reg sem) (hd : d ∈ dutC ck r) (hk : amtC ck = 1) :
    iprop(Γ m K ∗ Owes c (dues c ((e, ck, r) :: l)) ∗ Tok (nb e c, ck) r d ∗ payC m (nb e c, ck) r d ∗ Rch (nb e c, ck) r)
      ⊢ iprop((Owes c (dues c l) -∗ WP c (k ⟨⟩) Q) -∗ WP c (semSignalWord (nb e c) sem 1#32 >>= k) Q) := by
  have hg : kcell (nb e c, ck) = ((nb e c : Thread nD τ), SemLoc.reg sem) := by rw [← hs]; rfl
  unfold Owes
  iintro ⟨#HG, ⟨%W, HO⟩, Ht, Hp, Hr⟩ Hk
  ihave #Hi := (Γ_inv m K (nb e c, ck)) $$ HG
  simp only [semSignalWord, Prog.lift, Prog.bind_op, Prog.bind_ret]
  iapply (Rounds.wp_signal 𝒱₀ ER (Rd m) (c : Thread nD τ) none (dst := (nb e c : Thread nD τ)) (κ := K (nb e c, ck)) (r := r) (d := d)
    (by rw [← hg, duties_eq]; exact hd) (by rw [← hg, amount_eq]; exact hk) r (O₀ := dues c ((e, ck, r) :: l)) (dues c l)
    (by rw [dues_cons, hg, hk]; rfl)) $$ [HO Ht Hp Hr]
  · rw [← hg]
    isplitr; · iexact Hi
    isplitl [HO]; · iexact HO
    isplitl [Ht]; · iexact Ht
    isplitl [Hp]; · rw [payload_eq]; iexact Hp
    iexact Hr
  iintro HO
  iapply Hk
  iexists W; iexact HO

/-- The send of hop `k`, in direction `d`: it pays the receive semaphore there with the block, and its own send semaphore
    with the buffer sent from. -/
theorem send_step {d : Dir} {n : Fin 6} {k : PUnit → KProg F α} :
    iprop(Γ m K ∗ Own c (srcM d n) fullShare (sentV m d n.val c) ∗ Some (nb d c) (dstM d n) ∗ Rch (c, kCr d) n.val
        ∗ Owes c (dues c ((d, kRs d n, 0) :: l)) ∗ Tok (c, kSs d n) 0 .cw ∗ Tok (nb d c, kRs d n) 0 .cw)
      ⊢ iprop(((Crd (c, kSs d n) 0 NN ∗ Owes c (dues c l)) -∗ WP c (k ⟨⟩) Q) -∗ WP c (send d n (nb d c) >>= k) Q) := by
  unfold Owes
  iintro ⟨#HG, Hsrc, Hdst, Hr, ⟨%W, HO⟩, HtS, HtR⟩ Hk
  ihave #HiS := (Γ_inv m K (c, kSs d n)) $$ HG
  ihave #HiR := (Γ_inv m K (nb d c, kRs d n)) $$ HG
  ihave #HrS := (Γ_rch m K (c, kSs d n)) $$ HG
  ihave #HrR := (Γ_rch m K (nb d c, kRs d n)) $$ HG
  unfold Some
  icases Hdst with ⟨%Y, Hdst⟩
  ihave Hs := (Entails.of_eq (show owns (c : Thread nD τ) (srcM d n) fullShare (sentV m d n.val c) = iprop(∃ f, ⌜(srcM d n).view.read (Elt F) f = sentV m d n.val c⌝ ∗ ((srcM d n).view.loc (c : Thread nD τ) ↦[(srcM d n).view.set]{fullShare} f)) from rfl)) $$ Hsrc
  ihave Hd := (Entails.of_eq (show owns (nb d c : Thread nD τ) (dstM d n) fullShare Y = iprop(∃ f, ⌜(dstM d n).view.read (Elt F) f = Y⌝ ∗ ((dstM d n).view.loc (nb d c : Thread nD τ) ↦[(dstM d n).view.set]{fullShare} f)) from rfl)) $$ Hdst
  icases Hs with ⟨%fs, %hfs, Hs⟩
  icases Hd with ⟨%fd, %hfd, Hd⟩
  simp only [send, Prog.lift, Prog.bind_op, Prog.bind_ret]
  iapply (Rounds.wp_send_pointsTo_with 𝒱₀ ER (Rd m) (c : Thread nD τ) none (c' := (nb d c : Thread nD τ)) (src := srcM d n) (dst := dstM d n)
    (sS := .dma (ssSem d n)) (sem := .dma (rsSem d n)) (fs := fs) (fd := fd) (q := fullShare) (r₁ := 0) (r₂ := 0) (d₁ := Dir.cw) (d₂ := Dir.cw)
    (F := Rch (c, kCr d) n.val)
    (κ₁ := K (c, kSs d n)) (κ₂ := K (nb d c, kRs d n))
    (by rw [show (((c : Thread nD τ), SemLoc.dma (ssSem d n)) : GSem nD τ sig) = kcell (c, kSs d n) from rfl, duties_eq]; exact Finset.mem_singleton_self _)
    (by rw [show (((nb d c : Thread nD τ), SemLoc.dma (rsSem d n)) : GSem nD τ sig) = kcell (nb d c, kRs d n) from rfl, duties_eq]; exact Finset.mem_singleton_self _)
    0 0 NN (credit_dst d n)
    (by rw [show (((c : Thread nD τ), SemLoc.dma (ssSem d n)) : GSem nD τ sig) = kcell (c, kSs d n) from rfl, amount_eq]; rfl)
    (by rw [show (((nb d c : Thread nD τ), SemLoc.dma (rsSem d n)) : GSem nD τ sig) = kcell (nb d c, kRs d n) from rfl, amount_eq]; rfl)
    (O₀ := dues c ((d, kRs d n, 0) :: l)) (dues c l) (by rw [dues_cons]; rfl) ?_ ?_) $$ [Hs Hd Hr HO HtS HtR]
  · rw [show (((c : Thread nD τ), SemLoc.dma (ssSem d n)) : GSem nD τ sig) = kcell (c, kSs d n) from rfl, payload_eq]
    show _ ⊢ Some c (srcM d n)
    unfold Some Own owns
    iintro H; iexists _; iexists fs; isplitr; · ipureintro; rfl
    iexact H
  · rw [show (((nb d c : Thread nD τ), SemLoc.dma (rsSem d n)) : GSem nD τ sig) = kcell (nb d c, kRs d n) from rfl, payload_eq]
    show _ ⊢ iprop(Own (nb d c) (dstM d n) fullShare (landV m d n.val (nb d c)) ∗ reached ER (kcell (prv d (nb d c), kCr d)) n.val)
    unfold Own owns landV
    rw [prv_nb]
    iintro ⟨H, Hr⟩
    isplitl [H]
    · iexists ((dstM d n).view.write (Elt F) fd ((srcM d n).view.read (Elt F) fs) Finset.univ); isplitr
      · ipureintro; exact (View.read_write_univ _ _).trans hfs
      iexact H
    iexact Hr
  · isplitr; · iexact HiS
    isplitr; · iexact HiR
    isplitl [Hs]; · iexact Hs
    isplitl [Hd Hr]
    · isplitl [Hd]; · iexact Hd
      iexact Hr
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- A wait for a whole round of a cell: its payloads, and the next round open. -/
theorem round_wait {w : TpuEff nD τ sig (Elt F) Λ₀ .tc PUnit} {ck : CK} {r n : ℕ} {k : PUnit → KProg F α}
    (hw : ∀ P : PUnit → sProp (MR F), wpE (defs₀ (F := F)) 𝒱₀ (c : Thread nD τ) none Set.univ w P = waitSpec (c : Thread nD τ) Set.univ (csem ck) n P)
    (hn : n = (dutC ck r).card * amtC ck) (hr : r < 6) (ha : Above (lvC ck r) l) :
    iprop(Γ m K ∗ Crd (c, ck) r n ∗ Owes c (dues c l) ∗ At (c, ck) r)
      ⊢ iprop(((Owes c (dues c l) ∗ At (c, ck) (r + 1) ∗ Rch (c, ck) (r + 1) ∗ bigSep (dutC ck r) (payC m (c, ck) r)) -∗ WP c (k ⟨⟩) Q)
          -∗ WP c (.op w k) Q) := by
  unfold Owes
  iintro ⟨#HG, Hc, ⟨%W, HO⟩, Hat⟩ Hk
  ihave #Hi := (Γ_inv m K (c, ck)) $$ HG
  ihave #Hl := (Γ_lev m K) $$ HG
  iapply (Rounds.wp_wait_rest_token 𝒱₀ ER (Rd m) (c : Thread nD τ) none (κ := K (c, ck)) hw (Set.mem_univ _) r
      (O := dues c l) (W := W) (R := r) (m := 0) (T := ∅)
      (by rw [show (((c : Thread nD τ), csem ck) : GSem nD τ sig) = kcell (c, ck) from rfl, expect_eq, Nat.zero_add]; exact hn)) $$ [Hc HO Hat]
  · isplitr; · iexact Hi
    isplitl [Hc]; · iexact Hc
    isplitl [HO]; · iexact HO
    isplitr; · iapply (mayWait_cell (c := c) hr ha); iexact Hl
    iexact Hat
  iintro ⟨HO, Hat, Hr, Hp⟩
  iapply Hk
  isplitl [HO]; · iexists _; iexact HO
  isplitl [Hat]; · iexact Hat
  isplitl [Hr]; · iexact Hr
  iapply (Entails.of_eq (show bigSep ((Rd m).duties ((c : Thread nD τ), csem ck) r \ ∅) (fun d => (Rd m).payload ((c : Thread nD τ), csem ck) r d) = bigSep (dutC ck r) (payC m (c, ck) r) by
    rw [show (((c : Thread nD τ), csem ck) : GSem nD τ sig) = kcell (c, ck) from rfl, duties_eq, Finset.sdiff_empty, bigSep_congr (fun d _ => payload_eq m (c, ck) r d)])) $$ Hp

/-- A cell whose rounds are all taken is out of use. -/
theorem close_step (ck : CK) (R : ℕ) (hR : lastC ck ≤ R) :
    iprop(Γ m K ∗ At (c, ck) R) ⊢ iprop(|={Set.univ}=> Zero c (csem ck)) := by
  iintro ⟨#HG, Hat⟩
  ihave #Hi := (Γ_inv m K (c, ck)) $$ HG
  iapply (Rounds.cell_close ER (Rd m) (Set.mem_univ (K (c, ck))) (fun h => h) (R := R) (fun r h => duties_later m (c, ck) r (hR.trans h)))
  isplitr; · iexact Hi
  iexact Hat

/-- The wait at entry: each neighbour has handed over the buffer that hop 0 lands in. -/
theorem barrier_step {k : PUnit → KProg F α} (ha : Above 1 l) :
    iprop(Γ m K ∗ Crd (c, kBar) 0 2 ∗ Owes c (dues c l) ∗ At (c, kBar) 0)
      ⊢ iprop(((Owes c (dues c l) ∗ Zero c (.reg barSem) ∗ Some (nb .cw c) (rcvM .cw) ∗ Some (nb .ccw c) (rcvM .ccw)) -∗ WP c (k ⟨⟩) Q)
          -∗ WP c (semWaitWord barSem 2#32 >>= k) Q) := by
  iintro ⟨#HG, Hc, HO, Hat⟩ Hk
  simp only [semWaitWord, Prog.lift, Prog.bind_op, Prog.bind_ret]
  iapply (round_wait (c := c) (ck := kBar) (r := 0) (n := 2) (wpE_semWait_eq 𝒱₀ (c : Thread nD τ) none Set.univ) (by decide) (by decide) ha) $$ [Hc HO Hat]
  · isplitr; · iexact HG
    isplitl [Hc]; · iexact Hc
    isplitl [HO]; · iexact HO
    iexact Hat
  iintro ⟨HO, Hat, -, Hp⟩
  imod (close_step (m := m) (K := K) kBar 1 le_rfl) $$ [Hat] with Hz
  · isplitr; · iexact HG
    iexact Hat
  iapply Hk
  isplitl [HO]; · iexact HO
  isplitl [Hz]; · iexact Hz
  iapply (Entails.of_eq (show bigSep (dutC kBar 0) (payC m (c, kBar) 0) = iprop(Some (nb .cw c) (rcvM .cw) ∗ Some (nb .ccw c) (rcvM .ccw)) from
    bigSep_eq_bigSepL_of_eq [Dir.cw, Dir.ccw] (by decide) (by decide) _)) $$ Hp

/-- The wait for a send: the buffer sent from is free again. -/
theorem waitSnd_step {d : Dir} {n : Fin 6} {k : PUnit → KProg F α} (ha : Above 0 l) :
    iprop(Γ m K ∗ Crd (c, kSs d n) 0 NN ∗ Owes c (dues c l) ∗ At (c, kSs d n) 0)
      ⊢ iprop(((Owes c (dues c l) ∗ Zero c (.dma (ssSem d n)) ∗ Some c (srcM d n)) -∗ WP c (k ⟨⟩) Q) -∗ WP c (waitSnd d n >>= k) Q) := by
  iintro ⟨#HG, Hc, HO, Hat⟩ Hk
  simp only [waitSnd, Prog.lift, Prog.bind_op, Prog.bind_ret]
  iapply (round_wait (c := c) (ck := kSs d n) (r := 0) (n := NN)
    (by rw [← credit_src d n]; exact wpE_waitDma2_eq 𝒱₀ (c : Thread nD τ) none Set.univ) (by simp [dutC, amtC]) (by decide) ha) $$ [Hc HO Hat]
  · isplitr; · iexact HG
    isplitl [Hc]; · iexact Hc
    isplitl [HO]; · iexact HO
    iexact Hat
  iintro ⟨HO, Hat, -, Hp⟩
  imod (close_step (m := m) (K := K) (kSs d n) 1 le_rfl) $$ [Hat] with Hz
  · isplitr; · iexact HG
    iexact Hat
  iapply Hk
  isplitl [HO]; · iexact HO
  isplitl [Hz]; · iexact Hz
  iapply (Entails.of_eq (show bigSep (dutC (kSs d n) 0) (payC m (c, kSs d n) 0) = Some c (srcM d n) from bigSep_singleton)) $$ Hp

/-- The wait for what hop `n` lands: the block, and that its sender has taken the credits before. -/
theorem waitRcv_step {d : Dir} {n : Fin 6} {k : PUnit → KProg F α} (ha : Above (2 * n.val + 2) l) :
    iprop(Γ m K ∗ Crd (c, kRs d n) 0 NN ∗ Owes c (dues c l) ∗ At (c, kRs d n) 0)
      ⊢ iprop(((Owes c (dues c l) ∗ Zero c (.dma (rsSem d n)) ∗ Own c (dstM d n) fullShare (landV m d n.val c) ∗ Rch (prv d c, kCr d) n.val)
            -∗ WP c (k ⟨⟩) Q) -∗ WP c (waitRcv d n >>= k) Q) := by
  iintro ⟨#HG, Hc, HO, Hat⟩ Hk
  simp only [waitRcv, Prog.lift, Prog.bind_op, Prog.bind_ret]
  iapply (round_wait (c := c) (ck := kRs d n) (r := 0) (n := NN)
    (by rw [← credit_dst d n]; exact wpE_waitDma2_eq 𝒱₀ (c : Thread nD τ) none Set.univ) (by simp [dutC, amtC]) (by decide) ha) $$ [Hc HO Hat]
  · isplitr; · iexact HG
    isplitl [Hc]; · iexact Hc
    isplitl [HO]; · iexact HO
    iexact Hat
  iintro ⟨HO, Hat, -, Hp⟩
  imod (close_step (m := m) (K := K) (kRs d n) 1 le_rfl) $$ [Hat] with Hz
  · isplitr; · iexact HG
    iexact Hat
  iapply Hk
  isplitl [HO]; · iexact HO
  isplitl [Hz]; · iexact Hz
  iapply (Entails.of_eq (show bigSep (dutC (kRs d n) 0) (payC m (c, kRs d n) 0)
    = iprop(Own c (dstM d n) fullShare (landV m d n.val c) ∗ Rch (prv d c, kCr d) n.val) from bigSep_singleton)) $$ Hp

/-- A credit given: the buffer that hop `r + 1` lands in goes to the device before. -/
theorem giveCr_step {d : Dir} {r : ℕ} {k : PUnit → KProg F α} (hr : r < 5) :
    iprop(Γ m K ∗ Owes c (dues c ((d.opp, kCr d, r) :: l)) ∗ Tok (prv d c, kCr d) r .cw ∗ Some c (dstR d r) ∗ Rch (prv d c, kCr d) r)
      ⊢ iprop((Owes c (dues c l) -∗ WP c (k ⟨⟩) Q) -∗ WP c (giveCr d (prv d c) >>= k) Q) := by
  iintro ⟨#HG, HO, Ht, Hp, Hr⟩ Hk
  iapply (signal_step (e := d.opp) (d := .cw) (ck := kCr d) (r := r) (sem := crSem d) rfl
    (by show Dir.cw ∈ (if r < 5 then {Dir.cw} else ∅); rw [if_pos hr]; exact Finset.mem_singleton_self _) rfl) $$ [HO Ht Hp Hr]
  · isplitr; · iexact HG
    isplitl [HO]; · iexact HO
    isplitl [Ht]; · iexact Ht
    isplitl [Hp]
    · rw [show payC m (nb d.opp c, kCr d) r .cw = Some (nb d (nb d.opp c)) (dstR d r) from rfl, nb_nb_opp]; iexact Hp
    iexact Hr
  iexact Hk

/-- A credit taken: the buffer that hop `r + 1` lands in. -/
theorem takeCr_step {d : Dir} {r : ℕ} {k : PUnit → KProg F α} (hr : r < 5) (ha : Above (2 * r + 3) l) :
    iprop(Γ m K ∗ Crd (c, kCr d) r 1 ∗ Owes c (dues c l) ∗ At (c, kCr d) r)
      ⊢ iprop(((Owes c (dues c l) ∗ At (c, kCr d) (r + 1) ∗ Rch (c, kCr d) (r + 1) ∗ Some (nb d c) (dstR d r)) -∗ WP c (k ⟨⟩) Q)
          -∗ WP c (takeCr d >>= k) Q) := by
  have hd : dutC (kCr d) r = {Dir.cw} := if_pos hr
  iintro ⟨#HG, Hc, HO, Hat⟩ Hk
  simp only [takeCr, semWaitWord, Prog.lift, Prog.bind_op, Prog.bind_ret]
  iapply (round_wait (c := c) (ck := kCr d) (r := r) (n := 1) (wpE_semWait_eq 𝒱₀ (c : Thread nD τ) none Set.univ)
    (by rw [hd]; rfl) (by omega) ha) $$ [Hc HO Hat]
  · isplitr; · iexact HG
    isplitl [Hc]; · iexact Hc
    isplitl [HO]; · iexact HO
    iexact Hat
  iintro ⟨HO, Hat, Hr, Hp⟩
  iapply Hk
  isplitl [HO]; · iexact HO
  isplitl [Hat]; · iexact Hat
  isplitl [Hr]; · iexact Hr
  iapply (Entails.of_eq (show bigSep (dutC (kCr d) r) (payC m (c, kCr d) r) = Some (nb d c) (dstR d r) by rw [hd]; exact bigSep_singleton)) $$ Hp

end Rules

end Cert.KernelIdeal.Ring

end
-- ==== Proof.Local.lean ====
/-
  One product of a chunk of rows of `A` with this device's `B`, in both directions at once.

  The blocks of `B` come one after the other into two alternating slots: while step `kk` multiplies block `kk` from one slot,
  block `kk + 1` is on its way into the other.
-/
module

public import proofs.«01_k».proof.Proof.Hops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ) (K : Dev nD × CK → ℕ)

/-! ## What is held between steps -/

/-- Block `kk` of this device's `B`. -/
abbrev BRow (c : Dev nD) (kk : Fin 8) : sProp (MR F) := Own c (bRow kk) fullShare (bV m c kk)
/-- A free slot. -/
def Free (c : Dev nD) (p : Fin 2) : sProp (MR F) := iprop(Some c (bSlot p) ∗ Zero c (.dma (bSem p)))
/-- Block `kk` on its way into slot `p`. -/
def BFly (c : Dev nD) (p : Fin 2) (kk : Fin 8) : sProp (MR F) :=
  Flying c (bSem p) (bSlot p).view.dmaCredit iprop(Own c (bSlot p) fullShare (bV m c kk) ∗ BRow m c kk)
/-- All blocks but the first. -/
def BRest (c : Dev nD) : sProp (MR F) :=
  iprop(BRow m c 1 ∗ BRow m c 2 ∗ BRow m c 3 ∗ BRow m c 4 ∗ BRow m c 5 ∗ BRow m c 6 ∗ BRow m c 7)

theorem csem_ne_b : ∀ p : Fin 2, ∀ k, csem k ≠ .dma (bSem p) := by decide
theorem csem_ne_a : ∀ d : Dir, ∀ k, csem k ≠ .dma (aSem d) := by decide
theorem csem_ne_st : ∀ (d : Dir) (j : Fin 4), ∀ k, csem k ≠ .dma (stSem d j) := by decide

theorem numel_blk : 0 < S1024x2048.numel := by decide
theorem numel_row : 0 < S256x4096.numel := by decide

section Rules

variable {m K}
variable {c : Dev nD} {α : Type} {Q : α → sProp (MR F)} {l : List Due} {k : PUnit → KProg F α}

theorem startB_step {kk : Fin 8} {p : Fin 2} (hp : slotOf kk = p) :
    iprop(Free c p ∗ BRow m c kk) ⊢ iprop((BFly m c p kk -∗ WP c (k ⟨⟩) Q) -∗ WP c (startB kk >>= k) Q) := by
  subst hp
  unfold Free BFly startB
  iintro ⟨⟨Hs, Hz⟩, Hr⟩ Hk
  iapply (start_step numel_row) $$ [Hs Hz Hr]
  · isplitl [Hr]; · iexact Hr
    isplitl [Hs]; · iexact Hs
    iexact Hz
  iexact Hk

theorem waitB_step {kk : Fin 8} {p : Fin 2} (hp : slotOf kk = p) (ha : Above 0 l) :
    iprop(Γ m K ∗ Owes c (dues c l) ∗ BFly m c p kk)
      ⊢ iprop(((Owes c (dues c l) ∗ Own c (bSlot p) fullShare (bV m c kk) ∗ BRow m c kk ∗ Zero c (.dma (bSem p))) -∗ WP c (k ⟨⟩) Q)
          -∗ WP c (waitB kk >>= k) Q) := by
  subst hp
  unfold BFly waitB
  iintro ⟨#HG, HO, Hf⟩ Hk
  iapply (wait_step rfl) $$ [HO Hf]
  · isplitl [Hf]; · iexact Hf
    isplitl [HO]; · iexact HO
    iapply (mayWait_local (c := c) (csem_ne_b (slotOf kk)) ha)
    iapply (Γ_lev m K); iexact HG
  iintro ⟨⟨Hs, Hr⟩, Hz, HO⟩
  iapply Hk
  isplitl [HO]; · iexact HO
  isplitl [Hs]; · iexact Hs
  isplitl [Hr]; · iexact Hr
  iexact Hz

variable {x y : Dir} {qx qy : PosShare TreeShare} {A A' : Vec F S1024x2048 .f32}

/-- One step's loads, products and stores. -/
theorem mmAcc_step {kk : Fin 8} {p : Fin 2} (hp : slotOf kk = p) {B : Vec F S256x4096 .f32} {v v' : Vec F S1024x2048 .f32} :
    iprop(Own c (bSlot p) fullShare B ∗ Own c (chM x) qx A ∗ Own c (chM y) qy A' ∗ Own c (accM .cw) fullShare v ∗ Own c (accM .ccw) fullShare v')
      ⊢ iprop(((Own c (bSlot p) fullShare B ∗ Own c (chM x) qx A ∗ Own c (chM y) qy A'
              ∗ Own c (accM .cw) fullShare (payS v (aPart A kk) (bPart B .cw)) ∗ Own c (accM .ccw) fullShare (payS v' (aPart A' kk) (bPart B .ccw)))
            -∗ WP c (k ⟨⟩) Q) -∗ WP c (mmAcc x y kk >>= k) Q) := by
  subst hp
  unfold mmAcc
  simp only [bind_assoc]
  iintro ⟨HB, Hx, Hy, Hv, Hv'⟩ Hk
  iapply (load_step) $$ Hx; iintro Hx
  iapply (load_step) $$ HB; iintro HB
  iapply (load_step) $$ Hy; iintro Hy
  iapply (load_step) $$ HB; iintro HB
  iapply (loadF_step) $$ Hv; iintro Hv
  iapply (loadF_step) $$ Hv; iintro Hv
  iapply (storeF_step) $$ [Hv]; · iapply some_intro; iexact Hv
  iintro Hv
  iapply (loadF_step) $$ Hv'; iintro Hv'
  iapply (loadF_step) $$ Hv'; iintro Hv'
  iapply (storeF_step) $$ [Hv']; · iapply some_intro; iexact Hv'
  iintro Hv'
  iapply Hk
  isplitl [HB]; · iexact HB
  isplitl [Hx]; · iexact Hx
  isplitl [Hy]; · iexact Hy
  isplitl [Hv]; · iexact Hv
  iexact Hv'

/-- What the steps of a product hold of the two chunks and the two accumulators. -/
abbrev MM (c : Dev nD) (x y : Dir) (qx qy : PosShare TreeShare) (A A' v v' : Vec F S1024x2048 .f32) : sProp (MR F) :=
  iprop(Own c (chM x) qx A ∗ Own c (chM y) qy A' ∗ Own c (accM .cw) fullShare v ∗ Own c (accM .ccw) fullShare v')

theorem mmNext_step {kk kk' : Fin 8} {p p' : Fin 2} (hp : slotOf kk = p) (hp' : slotOf kk' = p') (ha : Above 0 l) {v v' : Vec F S1024x2048 .f32} :
    iprop(Γ m K ∗ Owes c (dues c l) ∗ BFly m c p kk ∗ Free c p' ∗ BRow m c kk' ∗ MM c x y qx qy A A' v v')
      ⊢ iprop(((Owes c (dues c l) ∗ BFly m c p' kk' ∗ Free c p ∗ BRow m c kk
              ∗ MM c x y qx qy A A' (stepV A (bV m c) .cw kk v) (stepV A' (bV m c) .ccw kk v'))
            -∗ WP c (k ⟨⟩) Q) -∗ WP c (mmNext x y kk kk' >>= k) Q) := by
  unfold mmNext
  simp only [bind_assoc]
  iintro ⟨#HG, HO, Hf, Hfr, Hr', HM⟩ Hk
  iapply (startB_step hp') $$ [Hfr Hr']
  · isplitl [Hfr]; · iexact Hfr
    iexact Hr'
  iintro Hf'
  iapply (waitB_step hp ha) $$ [HO Hf]
  · isplitr; · iexact HG
    isplitl [HO]; · iexact HO
    iexact Hf
  iintro ⟨HO, HB, Hr, Hz⟩
  iapply (mmAcc_step hp) $$ [HB HM]
  · isplitl [HB]; · iexact HB
    iexact HM
  iintro ⟨HB, HM⟩
  iapply Hk
  isplitl [HO]; · iexact HO
  isplitl [Hf']; · iexact Hf'
  isplitl [HB Hz]
  · unfold Free; isplitl [HB]; · iapply some_intro; iexact HB
    iexact Hz
  isplitl [Hr]; · iexact Hr
  iexact HM

theorem mmFirst_step (ha : Above 0 l) :
    iprop(Γ m K ∗ Owes c (dues c l) ∗ BFly m c 0 0 ∗ Free c 1 ∗ BRow m c 1
        ∗ Own c (chM x) qx A ∗ Own c (chM y) qy A' ∗ Some c (accM .cw) ∗ Some c (accM .ccw))
      ⊢ iprop(((Owes c (dues c l) ∗ BFly m c 1 1 ∗ Free c 0 ∗ BRow m c 0 ∗ MM c x y qx qy A A' (firstV A (bV m c) .cw) (firstV A' (bV m c) .ccw))
            -∗ WP c (k ⟨⟩) Q) -∗ WP c (mmFirst x y >>= k) Q) := by
  unfold mmFirst
  simp only [bind_assoc]
  iintro ⟨#HG, HO, Hf, Hfr, Hr', Hx, Hy, Hv, Hv'⟩ Hk
  iapply (startB_step (p := 1) rfl) $$ [Hfr Hr']
  · isplitl [Hfr]; · iexact Hfr
    iexact Hr'
  iintro Hf'
  iapply (waitB_step (p := 0) rfl ha) $$ [HO Hf]
  · isplitr; · iexact HG
    isplitl [HO]; · iexact HO
    iexact Hf
  iintro ⟨HO, HB, Hr, Hz⟩
  unfold Some
  icases Hv with ⟨%v, Hv⟩
  icases Hv' with ⟨%v', Hv'⟩
  iapply (load_step) $$ Hx; iintro Hx
  iapply (load_step) $$ HB; iintro HB
  iapply (load_step) $$ Hy; iintro Hy
  iapply (load_step) $$ HB; iintro HB
  iapply (loadF_step) $$ Hv; iintro Hv
  iapply (storeF_step) $$ [Hv]; · iapply some_intro; iexact Hv
  iintro Hv
  iapply (loadF_step) $$ Hv'; iintro Hv'
  iapply (storeF_step) $$ [Hv']; · iapply some_intro; iexact Hv'
  iintro Hv'
  iapply Hk
  isplitl [HO]; · iexact HO
  isplitl [Hf']; · iexact Hf'
  isplitl [HB Hz]
  · unfold Free; isplitl [HB]; · iapply some_intro; iexact HB
    iexact Hz
  isplitl [Hr]; · iexact Hr
  isplitl [Hx]; · iexact Hx
  isplitl [Hy]; · iexact Hy
  isplitl [Hv]; · iexact Hv
  iexact Hv'

/-- The whole product. -/
theorem mmAll_step (ha : Above 0 l) :
    iprop(Γ m K ∗ Owes c (dues c l) ∗ (BFly m c 0 0 ∗ Free c 1 ∗ BRest m c)
        ∗ Own c (chM x) qx A ∗ Own c (chM y) qy A' ∗ Some c (accM .cw) ∗ Some c (accM .ccw))
      ⊢ iprop(((Owes c (dues c l) ∗ (Free c 0 ∗ BRow m c 0 ∗ Free c 1 ∗ BRest m c)
              ∗ MM c x y qx qy A A' (prodV A (bV m c) .cw) (prodV A' (bV m c) .ccw))
            -∗ WP c (k ⟨⟩) Q) -∗ WP c (mmAll x y >>= k) Q) := by
  unfold mmAll BRest
  simp only [bind_assoc]
  iintro ⟨#HG, HO, ⟨Hf, Hfr, H1, H2, H3, H4, H5, H6, H7⟩, HM⟩ Hk
  iapply (mmFirst_step ha) $$ [HO Hf Hfr H1 HM]
  · isplitr; · iexact HG
    isplitl [HO]; · iexact HO
    isplitl [Hf]; · iexact Hf
    isplitl [Hfr]; · iexact Hfr
    isplitl [H1]; · iexact H1
    iexact HM
  iintro ⟨HO, Hf, Hfr, H0, HM⟩
  iapply (mmNext_step (p := 1) (p' := 0) rfl rfl ha) $$ [HO Hf Hfr H2 HM]
  · isplitr; · iexact HG
    isplitl [HO]; · iexact HO
    isplitl [Hf]; · iexact Hf
    isplitl [Hfr]; · iexact Hfr
    isplitl [H2]; · iexact H2
    iexact HM
  iintro ⟨HO, Hf, Hfr, H1, HM⟩
  iapply (mmNext_step (p := 0) (p' := 1) rfl rfl ha) $$ [HO Hf Hfr H3 HM]
  · isplitr; · iexact HG
    isplitl [HO]; · iexact HO
    isplitl [Hf]; · iexact Hf
    isplitl [Hfr]; · iexact Hfr
    isplitl [H3]; · iexact H3
    iexact HM
  iintro ⟨HO, Hf, Hfr, H2, HM⟩
  iapply (mmNext_step (p := 1) (p' := 0) rfl rfl ha) $$ [HO Hf Hfr H4 HM]
  · isplitr; · iexact HG
    isplitl [HO]; · iexact HO
    isplitl [Hf]; · iexact Hf
    isplitl [Hfr]; · iexact Hfr
    isplitl [H4]; · iexact H4
    iexact HM
  iintro ⟨HO, Hf, Hfr, H3, HM⟩
  iapply (mmNext_step (p := 0) (p' := 1) rfl rfl ha) $$ [HO Hf Hfr H5 HM]
  · isplitr; · iexact HG
    isplitl [HO]; · iexact HO
    isplitl [Hf]; · iexact Hf
    isplitl [Hfr]; · iexact Hfr
    isplitl [H5]; · iexact H5
    iexact HM
  iintro ⟨HO, Hf, Hfr, H4, HM⟩
  iapply (mmNext_step (p := 1) (p' := 0) rfl rfl ha) $$ [HO Hf Hfr H6 HM]
  · isplitr; · iexact HG
    isplitl [HO]; · iexact HO
    isplitl [Hf]; · iexact Hf
    isplitl [Hfr]; · iexact Hfr
    isplitl [H6]; · iexact H6
    iexact HM
  iintro ⟨HO, Hf, Hfr, H5, HM⟩
  iapply (mmNext_step (p := 0) (p' := 1) rfl rfl ha) $$ [HO Hf Hfr H7 HM]
  · isplitr; · iexact HG
    isplitl [HO]; · iexact HO
    isplitl [Hf]; · iexact Hf
    isplitl [Hfr]; · iexact Hfr
    isplitl [H7]; · iexact H7
    iexact HM
  iintro ⟨HO, Hf, Hfr, H6, HM⟩
  iapply (waitB_step (p := 1) rfl ha) $$ [HO Hf]
  · isplitr; · iexact HG
    isplitl [HO]; · iexact HO
    iexact Hf
  iintro ⟨HO, HB, H7, Hz⟩
  iapply (mmAcc_step (p := 1) rfl) $$ [HB HM]
  · isplitl [HB]; · iexact HB
    iexact HM
  iintro ⟨HB, HM⟩
  iapply Hk
  isplitl [HO]; · iexact HO
  isplitl [Hfr H0 HB Hz H1 H2 H3 H4 H5 H6 H7]
  · isplitl [Hfr]; · iexact Hfr
    isplitl [H0]; · iexact H0
    isplitl [HB Hz]
    · unfold Free; isplitl [HB]; · iapply some_intro; iexact HB
      iexact Hz
    isplitl [H1]; · iexact H1
    isplitl [H2]; · iexact H2
    isplitl [H3]; · iexact H3
    isplitl [H4]; · iexact H4
    isplitl [H5]; · iexact H5
    isplitl [H6]; · iexact H6
    iexact H7
  iexact HM

end Rules

end Cert.KernelIdeal.Ring

end
-- ==== Proof.Stages.lean ====
/-
  The steps that a device takes in both directions of the ring, one direction after the other, and the copies of chunks of `A`
  in and of blocks of the result out.
-/
module

public import proofs.«01_k».proof.Proof.Local

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ) (K : Dev nD × CK → ℕ)

/-- The same for both directions. -/
abbrev Both (P : Dir → sProp (MR F)) : sProp (MR F) := iprop(P .cw ∗ P .ccw)

/-- Of each chunk of `A` one half of the share is for each direction. -/
def halfOf : Dir → PosShare TreeShare
  | .cw => fullShare.left
  | .ccw => fullShare.right

/-- The chunk of `A` of stage `s`. -/
abbrev AChunk (c : Dev nD) (d : Dir) (s : ℕ) : sProp (MR F) := Own c (aM (chunk d s c)) (halfOf d) (aV m c (chunk d s c))
/-- That chunk on its way into its buffer. -/
def AFly (c : Dev nD) (d : Dir) (s : ℕ) : sProp (MR F) :=
  Flying c (aSem d) (chM d).view.dmaCredit iprop(Own c (chM d) fullShare (aV m c (chunk d s c)) ∗ AChunk m c d s)

/-- The block of the result in chunk `q` on its way out of buffer `j`. -/
def OFly (c : Dev nD) (d : Dir) (j : Fin 4) (q : Dev nD) (π : PosShare TreeShare) (X : Vec F S1024x2048 .f32) : sProp (MR F) :=
  Flying c (stSem d j) (oM d q).view.dmaCredit iprop(Own c (oM d q) fullShare X ∗ Own c (stgM d j) π X)

/-- All of `B` and both slots at rest, -/
def BIdle (c : Dev nD) : sProp (MR F) := iprop(Free c 0 ∗ BRow m c 0 ∗ Free c 1 ∗ BRest m c)
/-- and with the first block on its way. -/
def BBusy (c : Dev nD) : sProp (MR F) := iprop(BFly m c 0 0 ∗ Free c 1 ∗ BRest m c)

/-- What a device holds for hop `n` before it sends, -/
def Hop (c : Dev nD) (d : Dir) (n : Fin 6) : sProp (MR F) :=
  iprop(Tok (c, kSs d n) 0 .cw ∗ Tok (nb d c, kRs d n) 0 .cw ∗ At (c, kSs d n) 0 ∗ At (c, kRs d n) 0 ∗ Crd (c, kRs d n) 0 NN)
/-- until it has waited, -/
def HopFly (c : Dev nD) (d : Dir) (n : Fin 6) : sProp (MR F) :=
  iprop(Crd (c, kSs d n) 0 NN ∗ At (c, kSs d n) 0 ∗ At (c, kRs d n) 0 ∗ Crd (c, kRs d n) 0 NN)
/-- and after. -/
def HopDone (c : Dev nD) (d : Dir) (n : Fin 6) : sProp (MR F) :=
  iprop(Zero c (.dma (ssSem d n)) ∗ Zero c (.dma (rsSem d n)))

section Rules

variable {m K}
variable {c : Dev nD} {α : Type} {Q : α → sProp (MR F)} {l : List Due} {k : PUnit → KProg F α}

/-! ## Copies in and out -/

theorem startA_step {d : Dir} {s : ℕ} {off : Fin 2 → ℕ} {h : ∀ a, off a + S1024x2048.size a ≤ S4096x2048.size a} (e : off = rowOff (chunk d s c)) :
    iprop(AChunk m c d s ∗ Some c (chM d) ∗ Zero c (.dma (aSem d))) ⊢ iprop((AFly m c d s -∗ WP c (k ⟨⟩) Q) -∗ WP c (startA d off h >>= k) Q) := by
  subst e
  unfold AFly startA
  exact start_step numel_blk

theorem waitA_step {d : Dir} {s : ℕ} {off : Fin 2 → ℕ} {h : ∀ a, off a + S1024x2048.size a ≤ S4096x2048.size a} (e : off = rowOff (chunk d s c)) (ha : Above 0 l) :
    iprop(Γ m K ∗ Owes c (dues c l) ∗ AFly m c d s)
      ⊢ iprop(((Owes c (dues c l) ∗ Own c (chM d) fullShare (aV m c (chunk d s c)) ∗ AChunk m c d s ∗ Zero c (.dma (aSem d))) -∗ WP c (k ⟨⟩) Q)
          -∗ WP c (waitA d off h >>= k) Q) := by
  subst e
  unfold AFly waitA
  iintro ⟨#HG, HO, Hf⟩ Hk
  iapply (wait_step rfl) $$ [HO Hf]
  · isplitl [Hf]; · iexact Hf
    isplitl [HO]; · iexact HO
    iapply (mayWait_local (c := c) (csem_ne_a d) ha)
    iapply (Γ_lev m K); iexact HG
  iintro ⟨⟨Hs, Hr⟩, Hz, HO⟩
  iapply Hk
  isplitl [HO]; · iexact HO
  isplitl [Hs]; · iexact Hs
  isplitl [Hr]; · iexact Hr
  iexact Hz

theorem startO_step {d : Dir} {j : Fin 4} {q : Dev nD} {π : PosShare TreeShare} {X : Vec F S1024x2048 .f32} {off : Fin 2 → ℕ}
    {h : ∀ a, off a + S1024x2048.size a ≤ S4096x4096.size a} (e : off = blkOff d q) :
    iprop(Own c (stgM d j) π X ∗ Some c (oM d q) ∗ Zero c (.dma (stSem d j)))
      ⊢ iprop((OFly c d j q π X -∗ WP c (k ⟨⟩) Q) -∗ WP c (startO d j off h >>= k) Q) := by
  subst e
  unfold OFly startO
  exact start_step numel_blk

theorem waitO_step {d : Dir} {j : Fin 4} {q : Dev nD} {π : PosShare TreeShare} {X : Vec F S1024x2048 .f32} {off : Fin 2 → ℕ}
    {h : ∀ a, off a + S1024x2048.size a ≤ S4096x4096.size a} (e : off = blkOff d q) (ha : Above 0 l) :
    iprop(Γ m K ∗ Owes c (dues c l) ∗ OFly c d j q π X)
      ⊢ iprop(((Owes c (dues c l) ∗ Own c (oM d q) fullShare X ∗ Own c (stgM d j) π X ∗ Zero c (.dma (stSem d j))) -∗ WP c (k ⟨⟩) Q)
          -∗ WP c (waitO d j off h >>= k) Q) := by
  subst e
  unfold OFly waitO
  iintro ⟨#HG, HO, Hf⟩ Hk
  iapply (wait_step rfl) $$ [HO Hf]
  · isplitl [Hf]; · iexact Hf
    isplitl [HO]; · iexact HO
    iapply (mayWait_local (c := c) (csem_ne_st d j) ha)
    iapply (Γ_lev m K); iexact HG
  iintro ⟨⟨Hs, Hr⟩, Hz, HO⟩
  iapply Hk
  isplitl [HO]; · iexact HO
  isplitl [Hs]; · iexact Hs
  isplitl [Hr]; · iexact Hr
  iexact Hz

/-! ## Whole-buffer arithmetic -/

theorem narrow_step {d : Dir} {π : PosShare TreeShare} {X : Vec F S1024x2048 .f32} :
    iprop(Own c (accM d) π X ∗ Some c (sndM d))
      ⊢ iprop(((Own c (accM d) π X ∗ Own c (sndM d) fullShare (payT X)) -∗ WP c (k ⟨⟩) Q) -∗ WP c (narrow d >>= k) Q) := by
  unfold narrow Some
  simp only [bind_assoc]
  iintro ⟨HX, ⟨%Y, HY⟩⟩ Hk
  iapply (loadF_step) $$ HX; iintro HX
  iapply (loadF_step) $$ HY; iintro HY
  iapply (storeH_step) $$ [HY]; · iapply some_intro; iexact HY
  iintro HY
  iapply Hk
  isplitl [HX]; · iexact HX
  iexact HY

theorem addRcv_step {d : Dir} {X : Vec F S1024x2048 .f32} {Y : Vec F S1024x2048 .bf16} :
    iprop(Own c (accM d) fullShare X ∗ Own c (rcvM d) fullShare Y)
      ⊢ iprop(((Own c (accM d) fullShare (payR X Y) ∗ Own c (rcvM d) fullShare Y) -∗ WP c (k ⟨⟩) Q) -∗ WP c (addRcv d >>= k) Q) := by
  unfold addRcv
  simp only [bind_assoc]
  iintro ⟨HX, HY⟩ Hk
  iapply (loadF_step) $$ HX; iintro HX
  iapply (loadF_step) $$ HY; iintro HY
  iapply (loadF_step) $$ HX; iintro HX
  iapply (storeF_step) $$ [HX]; · iapply some_intro; iexact HX
  iintro HX
  iapply Hk
  isplitl [HX]; · iexact HX
  iexact HY

theorem widen_step {src : Memref sig .tc .vmem S1024x2048 .bf16} {dst : Memref sig .tc .vmem S1024x2048 .f32} {Y : Vec F S1024x2048 .bf16} :
    iprop(Own c src fullShare Y ∗ Some c dst)
      ⊢ iprop(((Own c src fullShare Y ∗ Own c dst fullShare (payE Y)) -∗ WP c (k ⟨⟩) Q) -∗ WP c (widen src dst >>= k) Q) := by
  unfold widen Some
  simp only [bind_assoc]
  iintro ⟨HY, ⟨%X, HX⟩⟩ Hk
  iapply (loadF_step) $$ HY; iintro HY
  iapply (loadF_step) $$ HX; iintro HX
  iapply (storeF_step) $$ [HX]; · iapply some_intro; iexact HX
  iintro HX
  iapply Hk
  isplitl [HY]; · iexact HY
  iexact HX

/-! ## Both directions -/

theorem narrow2_step {π : PosShare TreeShare} {X : Dir → Vec F S1024x2048 .f32} :
    iprop(Both (fun d => Own c (accM d) π (X d)) ∗ Both (fun d => Some c (sndM d)))
      ⊢ iprop(((Both (fun d => Own c (accM d) π (X d)) ∗ Both (fun d => Own c (sndM d) fullShare (payT (X d)))) -∗ WP c (k ⟨⟩) Q)
          -∗ WP c (narrow .cw >>= fun _ => narrow .ccw >>= k) Q) := by
  iintro ⟨⟨Ha, Ha'⟩, ⟨Hs, Hs'⟩⟩ Hk
  iapply (narrow_step) $$ [Ha Hs]
  · isplitl [Ha]; · iexact Ha
    iexact Hs
  iintro ⟨Ha, Hs⟩
  iapply (narrow_step) $$ [Ha' Hs']
  · isplitl [Ha']; · iexact Ha'
    iexact Hs'
  iintro ⟨Ha', Hs'⟩
  iapply Hk
  isplitl [Ha Ha']
  · isplitl [Ha]; · iexact Ha
    iexact Ha'
  isplitl [Hs]; · iexact Hs
  iexact Hs'

theorem addRcv2_step {X : Dir → Vec F S1024x2048 .f32} {Y : Dir → Vec F S1024x2048 .bf16} :
    iprop(Both (fun d => Own c (accM d) fullShare (X d)) ∗ Both (fun d => Own c (rcvM d) fullShare (Y d)))
      ⊢ iprop(((Both (fun d => Own c (accM d) fullShare (payR (X d) (Y d))) ∗ Both (fun d => Own c (rcvM d) fullShare (Y d))) -∗ WP c (k ⟨⟩) Q)
          -∗ WP c (addRcv .cw >>= fun _ => addRcv .ccw >>= k) Q) := by
  iintro ⟨⟨Ha, Ha'⟩, ⟨Hs, Hs'⟩⟩ Hk
  iapply (addRcv_step) $$ [Ha Hs]
  · isplitl [Ha]; · iexact Ha
    iexact Hs
  iintro ⟨Ha, Hs⟩
  iapply (addRcv_step) $$ [Ha' Hs']
  · isplitl [Ha']; · iexact Ha'
    iexact Hs'
  iintro ⟨Ha', Hs'⟩
  iapply Hk
  isplitl [Ha Ha']
  · isplitl [Ha]; · iexact Ha
    iexact Ha'
  isplitl [Hs]; · iexact Hs
  iexact Hs'

theorem widen2_step {src : Dir → Memref sig .tc .vmem S1024x2048 .bf16} {dst : Dir → Memref sig .tc .vmem S1024x2048 .f32} {Y : Dir → Vec F S1024x2048 .bf16} :
    iprop(Both (fun d => Own c (src d) fullShare (Y d)) ∗ Both (fun d => Some c (dst d)))
      ⊢ iprop(((Both (fun d => Own c (src d) fullShare (Y d)) ∗ Both (fun d => Own c (dst d) fullShare (payE (Y d)))) -∗ WP c (k ⟨⟩) Q)
          -∗ WP c (widen (src .cw) (dst .cw) >>= fun _ => widen (src .ccw) (dst .ccw) >>= k) Q) := by
  iintro ⟨⟨Ha, Ha'⟩, ⟨Hs, Hs'⟩⟩ Hk
  iapply (widen_step) $$ [Ha Hs]
  · isplitl [Ha]; · iexact Ha
    iexact Hs
  iintro ⟨Ha, Hs⟩
  iapply (widen_step) $$ [Ha' Hs']
  · isplitl [Ha']; · iexact Ha'
    iexact Hs'
  iintro ⟨Ha', Hs'⟩
  iapply Hk
  isplitl [Ha Ha']
  · isplitl [Ha]; · iexact Ha
    iexact Ha'
  isplitl [Hs]; · iexact Hs
  iexact Hs'

/-- What one direction puts into a send. -/
abbrev SendIn (c : Dev nD) (n : Fin 6) (d : Dir) : sProp (MR F) :=
  iprop(Hop c d n ∗ Own c (srcM d n) fullShare (sentV m d n.val c) ∗ Some (nb d c) (dstM d n) ∗ Rch (c, kCr d) n.val)

theorem sendHop_step {d : Dir} {n : Fin 6} {dev : Dev nD} (e : dev = nb d c) :
    iprop(Γ m K ∗ Owes c (dues c ((d, kRs d n, 0) :: l)) ∗ SendIn (m := m) c n d)
      ⊢ iprop(((Owes c (dues c l) ∗ HopFly c d n) -∗ WP c (k ⟨⟩) Q) -∗ WP c (send d n dev >>= k) Q) := by
  subst e
  unfold SendIn Hop HopFly
  iintro ⟨#HG, HO, ⟨Ht, Ht', Has, Har, Hc⟩, Hs, Hd, Hr⟩ Hk
  iapply (send_step (m := m) (K := K)) $$ [HO Ht Ht' Hs Hd Hr]
  · isplitr; · iexact HG
    isplitl [Hs]; · iexact Hs
    isplitl [Hd]; · iexact Hd
    isplitl [Hr]; · iexact Hr
    isplitl [HO]; · iexact HO
    isplitl [Ht]; · iexact Ht
    iexact Ht'
  iintro ⟨Hcs, HO⟩
  iapply Hk
  isplitl [HO]; · iexact HO
  isplitl [Hcs]; · iexact Hcs
  isplitl [Has]; · iexact Has
  isplitl [Har]; · iexact Har
  iexact Hc

theorem send2_step {n : Fin 6} {dev dev' : Dev nD} (e : dev = nb .cw c) (e' : dev' = nb .ccw c) :
    iprop(Γ m K ∗ Owes c (dues c (dueHop n ++ l)) ∗ Both (fun d => Hop c d n) ∗ Both (fun d => Own c (srcM d n) fullShare (sentV m d n.val c))
        ∗ Both (fun d => iprop(Some (nb d c) (dstM d n) ∗ Rch (c, kCr d) n.val)))
      ⊢ iprop(((Owes c (dues c l) ∗ Both (fun d => HopFly c d n)) -∗ WP c (k ⟨⟩) Q)
          -∗ WP c (send .cw n dev >>= fun _ => send .ccw n dev' >>= k) Q) := by
  iintro ⟨#HG, HO, ⟨Hh, Hh'⟩, ⟨Hs, Hs'⟩, ⟨Hi, Hi'⟩⟩ Hk
  iapply (sendHop_step (m := m) (K := K) (l := (Dir.ccw, kRs .ccw n, 0) :: l) e) $$ [HO Hh Hs Hi]
  · isplitr; · iexact HG
    isplitl [HO]; · iexact HO
    isplitl [Hh]; · iexact Hh
    isplitl [Hs]; · iexact Hs
    iexact Hi
  iintro ⟨HO, Ho⟩
  iapply (sendHop_step (m := m) (K := K) e') $$ [HO Hh' Hs' Hi']
  · isplitr; · iexact HG
    isplitl [HO]; · iexact HO
    isplitl [Hh']; · iexact Hh'
    isplitl [Hs']; · iexact Hs'
    iexact Hi'
  iintro ⟨HO, Ho'⟩
  iapply Hk
  isplitl [HO]; · iexact HO
  isplitl [Ho]; · iexact Ho
  iexact Ho'

/-- What one direction has after a hop. -/
abbrev HopOut (c : Dev nD) (n : Fin 6) (d : Dir) : sProp (MR F) :=
  iprop(HopDone c d n ∗ Some c (srcM d n) ∗ Own c (dstM d n) fullShare (landV m d n.val c) ∗ Rch (prv d c, kCr d) n.val)

theorem hop1_step {d : Dir} {n : Fin 6} (h0 : Above 0 l) (ha : Above (2 * n.val + 2) l) :
    iprop(Γ m K ∗ Owes c (dues c l) ∗ HopFly c d n)
      ⊢ iprop(((Owes c (dues c l) ∗ HopOut (m := m) c n d) -∗ WP c (k ⟨⟩) Q) -∗ WP c (waitSnd d n >>= fun _ => waitRcv d n >>= k) Q) := by
  unfold HopFly HopOut HopDone
  iintro ⟨#HG, HO, ⟨Hcs, Has, Har, Hcr⟩⟩ Hk
  iapply (waitSnd_step (m := m) (K := K) h0) $$ [HO Hcs Has]
  · isplitr; · iexact HG
    isplitl [Hcs]; · iexact Hcs
    isplitl [HO]; · iexact HO
    iexact Has
  iintro ⟨HO, Hz, Hs⟩
  iapply (waitRcv_step (m := m) (K := K) ha) $$ [HO Hcr Har]
  · isplitr; · iexact HG
    isplitl [Hcr]; · iexact Hcr
    isplitl [HO]; · iexact HO
    iexact Har
  iintro ⟨HO, Hz', Hd, Hr⟩
  iapply Hk
  isplitl [HO]; · iexact HO
  isplitl [Hz Hz']
  · isplitl [Hz]; · iexact Hz
    iexact Hz'
  isplitl [Hs]; · iexact Hs
  isplitl [Hd]; · iexact Hd
  iexact Hr

theorem waitHop_step {n : Fin 6} (h0 : Above 0 l) (ha : Above (2 * n.val + 2) l) :
    iprop(Γ m K ∗ Owes c (dues c l) ∗ Both (fun d => HopFly c d n))
      ⊢ iprop(((Owes c (dues c l) ∗ Both (fun d => HopDone c d n) ∗ Both (fun d => Some c (srcM d n))
              ∗ Both (fun d => Own c (dstM d n) fullShare (landV m d n.val c)) ∗ Both (fun d => Rch (prv d c, kCr d) n.val)) -∗ WP c (k ⟨⟩) Q)
          -∗ WP c (waitHop n >>= k) Q) := by
  unfold waitHop
  simp only [bind_assoc]
  iintro ⟨#HG, HO, ⟨Hi, Hi'⟩⟩ Hk
  iapply (hop1_step (m := m) (K := K) h0 ha) $$ [HO Hi]
  · isplitr; · iexact HG
    isplitl [HO]; · iexact HO
    iexact Hi
  iintro ⟨HO, Hd, Hs, Hl, Hr⟩
  iapply (hop1_step (m := m) (K := K) h0 ha) $$ [HO Hi']
  · isplitr; · iexact HG
    isplitl [HO]; · iexact HO
    iexact Hi'
  iintro ⟨HO, Hd', Hs', Hl', Hr'⟩
  iapply Hk
  isplitl [HO]; · iexact HO
  isplitl [Hd Hd']
  · isplitl [Hd]; · iexact Hd
    iexact Hd'
  isplitl [Hs Hs']
  · isplitl [Hs]; · iexact Hs
    iexact Hs'
  isplitl [Hl Hl']
  · isplitl [Hl]; · iexact Hl
    iexact Hl'
  isplitl [Hr]; · iexact Hr
  iexact Hr'

theorem giveCr2_step {r : ℕ} (hr : r < 5) {dev dev' : Dev nD} (e : dev = prv .cw c) (e' : dev' = prv .ccw c) :
    iprop(Γ m K ∗ Owes c (dues c (dueCr r ++ l)) ∗ Both (fun d => Tok (prv d c, kCr d) r .cw)
        ∗ Both (fun d => Some c (dstR d r)) ∗ Both (fun d => Rch (prv d c, kCr d) r))
      ⊢ iprop((Owes c (dues c l) -∗ WP c (k ⟨⟩) Q) -∗ WP c (giveCr .cw dev >>= fun _ => giveCr .ccw dev' >>= k) Q) := by
  subst e e'
  iintro ⟨#HG, HO, ⟨Ht, Ht'⟩, ⟨Hb, Hb'⟩, ⟨Hr, Hr'⟩⟩ Hk
  iapply (giveCr_step (m := m) (K := K) (d := .cw) (l := (Dir.cw, kCr .ccw, r) :: l) hr) $$ [HO Ht Hb Hr]
  · isplitr; · iexact HG
    isplitl [HO]; · iexact HO
    isplitl [Ht]; · iexact Ht
    isplitl [Hb]; · iexact Hb
    iexact Hr
  iintro HO
  iapply (giveCr_step (m := m) (K := K) (d := .ccw) hr) $$ [HO Ht' Hb' Hr']
  · isplitr; · iexact HG
    isplitl [HO]; · iexact HO
    isplitl [Ht']; · iexact Ht'
    isplitl [Hb']; · iexact Hb'
    iexact Hr'
  iexact Hk

theorem takeCr2_step {r : ℕ} (hr : r < 5) (ha : Above (2 * r + 3) l) :
    iprop(Γ m K ∗ Owes c (dues c l) ∗ Both (fun d => Crd (c, kCr d) r 1) ∗ Both (fun d => At (c, kCr d) r))
      ⊢ iprop(((Owes c (dues c l) ∗ Both (fun d => At (c, kCr d) (r + 1)) ∗ Both (fun d => iprop(Some (nb d c) (dstR d r) ∗ Rch (c, kCr d) (r + 1))))
            -∗ WP c (k ⟨⟩) Q) -∗ WP c (takeCr .cw >>= fun _ => takeCr .ccw >>= k) Q) := by
  iintro ⟨#HG, HO, ⟨Hc, Hc'⟩, ⟨Ha, Ha'⟩⟩ Hk
  iapply (takeCr_step (m := m) (K := K) hr ha) $$ [HO Hc Ha]
  · isplitr; · iexact HG
    isplitl [Hc]; · iexact Hc
    isplitl [HO]; · iexact HO
    iexact Ha
  iintro ⟨HO, Ha, Hr, Hb⟩
  iapply (takeCr_step (m := m) (K := K) hr ha) $$ [HO Hc' Ha']
  · isplitr; · iexact HG
    isplitl [Hc']; · iexact Hc'
    isplitl [HO]; · iexact HO
    iexact Ha'
  iintro ⟨HO, Ha', Hr', Hb'⟩
  iapply Hk
  isplitl [HO]; · iexact HO
  isplitl [Ha Ha']
  · isplitl [Ha]; · iexact Ha
    iexact Ha'
  isplitl [Hb Hr]
  · isplitl [Hb]; · iexact Hb
    iexact Hr
  isplitl [Hb']; · iexact Hb'
  iexact Hr'

/-- The chunks of stage `s` waited for and multiplied. -/
theorem mid_step {s : ℕ} {off off' : Fin 2 → ℕ} {h : ∀ a, off a + S1024x2048.size a ≤ S4096x2048.size a}
    {h' : ∀ a, off' a + S1024x2048.size a ≤ S4096x2048.size a} (e : off = rowOff (chunk .cw s c)) (e' : off' = rowOff (chunk .ccw s c)) (ha : Above 0 l) :
    iprop(Γ m K ∗ Owes c (dues c l) ∗ Both (fun d => AFly m c d s) ∗ BBusy m c ∗ Both (fun d => Some c (accM d)))
      ⊢ iprop(((Owes c (dues c l) ∗ BIdle m c ∗ Both (fun d => iprop(Some c (chM d) ∗ Zero c (.dma (aSem d)))) ∗ Both (fun d => AChunk m c d s)
              ∗ Both (fun d => Own c (accM d) fullShare (part m d (chunk d s c) c)))
            -∗ WP c (k ⟨⟩) Q) -∗ WP c (waitA .cw off h >>= fun _ => waitA .ccw off' h' >>= fun _ => mmAll .cw .ccw >>= k) Q) := by
  unfold BIdle BBusy part
  iintro ⟨#HG, HO, ⟨Hf, Hf'⟩, HB, ⟨Hv, Hv'⟩⟩ Hk
  iapply (waitA_step (m := m) (K := K) e ha) $$ [HO Hf]
  · isplitr; · iexact HG
    isplitl [HO]; · iexact HO
    iexact Hf
  iintro ⟨HO, Hc, Ha, Hz⟩
  iapply (waitA_step (m := m) (K := K) e' ha) $$ [HO Hf']
  · isplitr; · iexact HG
    isplitl [HO]; · iexact HO
    iexact Hf'
  iintro ⟨HO, Hc', Ha', Hz'⟩
  iapply (mmAll_step (m := m) (K := K) ha) $$ [HO HB Hc Hc' Hv Hv']
  · isplitr; · iexact HG
    isplitl [HO]; · iexact HO
    isplitl [HB]; · iexact HB
    isplitl [Hc]; · iexact Hc
    isplitl [Hc']; · iexact Hc'
    isplitl [Hv]; · iexact Hv
    iexact Hv'
  iintro ⟨HO, HB, Hc, Hc', Hv, Hv'⟩
  iapply Hk
  isplitl [HO]; · iexact HO
  isplitl [HB]; · iexact HB
  isplitl [Hc Hz Hc' Hz']
  · isplitl [Hc Hz]
    · isplitl [Hc]; · iapply some_intro; iexact Hc
      iexact Hz
    isplitl [Hc']; · iapply some_intro; iexact Hc'
    iexact Hz'
  isplitl [Ha Ha']
  · isplitl [Ha]; · iexact Ha
    iexact Ha'
  isplitl [Hv]; · iexact Hv
  iexact Hv'

/-- The chunks of stage `s` and the first block of `B` on their way. -/
theorem next_step {s : ℕ} {off off' : Fin 2 → ℕ} {h : ∀ a, off a + S1024x2048.size a ≤ S4096x2048.size a}
    {h' : ∀ a, off' a + S1024x2048.size a ≤ S4096x2048.size a} (e : off = rowOff (chunk .cw s c)) (e' : off' = rowOff (chunk .ccw s c)) :
    iprop(BIdle m c ∗ Both (fun d => iprop(Some c (chM d) ∗ Zero c (.dma (aSem d)))) ∗ Both (fun d => AChunk m c d s))
      ⊢ iprop(((BBusy m c ∗ Both (fun d => AFly m c d s)) -∗ WP c (k ⟨⟩) Q)
          -∗ WP c (startA .cw off h >>= fun _ => startA .ccw off' h' >>= fun _ => startB 0 >>= k) Q) := by
  unfold BIdle BBusy
  iintro ⟨⟨Hf0, Hr0, Hf1, HR⟩, ⟨⟨Hc, Hz⟩, ⟨Hc', Hz'⟩⟩, ⟨Ha, Ha'⟩⟩ Hk
  iapply (startA_step (m := m) e) $$ [Hc Hz Ha]
  · isplitl [Ha]; · iexact Ha
    isplitl [Hc]; · iexact Hc
    iexact Hz
  iintro Hf
  iapply (startA_step (m := m) e') $$ [Hc' Hz' Ha']
  · isplitl [Ha']; · iexact Ha'
    isplitl [Hc']; · iexact Hc'
    iexact Hz'
  iintro Hf'
  iapply (startB_step (m := m) (p := 0) rfl) $$ [Hf0 Hr0]
  · isplitl [Hf0]; · iexact Hf0
    iexact Hr0
  iintro HB
  iapply Hk
  isplitl [HB Hf1 HR]
  · isplitl [HB]; · iexact HB
    isplitl [Hf1]; · iexact Hf1
    iexact HR
  isplitl [Hf]; · iexact Hf
  iexact Hf'

end Rules

end Cert.KernelIdeal.Ring

end
-- ==== Proof.Body.lean ====
/-
  The body of one device, segment by segment.
-/
module

public import proofs.«01_k».proof.Proof.Stages

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ) (K : Dev nD × CK → ℕ)

/-! ## The offsets and the device numbers that the program computes -/

theorem off1_eq (c : Dev nD) : k0_off1 c = rowOff (chunk .cw 0 c) := by revert c; decide
theorem off2_eq (c : Dev nD) : k0_off2 c = rowOff (chunk .cw 1 c) := by revert c; decide
theorem off3_eq (c : Dev nD) : k0_off3 c = rowOff (chunk .ccw 1 c) := by revert c; decide
theorem off4_eq0 (c : Dev nD) : k0_off4 c 0#32 = rowOff (chunk .cw 2 c) := by revert c; decide
theorem off4_eq1 (c : Dev nD) : k0_off4 c 1#32 = rowOff (chunk .cw 3 c) := by revert c; decide
theorem off5_eq0 (c : Dev nD) : k0_off5 c 0#32 = rowOff (chunk .ccw 2 c) := by revert c; decide
theorem off5_eq1 (c : Dev nD) : k0_off5 c 1#32 = rowOff (chunk .ccw 3 c) := by revert c; decide
theorem off6_eq (c : Dev nD) : k0_off6 c = blkOff .cw (chunk .cw 3 c) := by revert c; decide
theorem off7_eq3 (c : Dev nD) : k0_off7 c 3#32 = blkOff .ccw (chunk .ccw 3 c) := by revert c; decide
theorem off7_eq0 (c : Dev nD) : k0_off7 c 0#32 = blkOff .ccw (chunk .ccw 0 c) := by revert c; decide
theorem off7_eq1 (c : Dev nD) : k0_off7 c 1#32 = blkOff .ccw (chunk .ccw 1 c) := by revert c; decide
theorem off7_eq2 (c : Dev nD) : k0_off7 c 2#32 = blkOff .ccw (chunk .ccw 2 c) := by revert c; decide
theorem off8_eq0 (c : Dev nD) : k0_off8 c 0#32 = blkOff .cw (chunk .cw 0 c) := by revert c; decide
theorem off8_eq1 (c : Dev nD) : k0_off8 c 1#32 = blkOff .cw (chunk .cw 1 c) := by revert c; decide
theorem off8_eq2 (c : Dev nD) : k0_off8 c 2#32 = blkOff .cw (chunk .cw 2 c) := by revert c; decide

/-- The right neighbour, as a number. -/
theorem dev_cw {f : Dev nD → ℕ} (h : ∀ c, f c < nD) (e : ∀ c : Dev nD, f c = (nb .cw c).val) (c : Dev nD) : (⟨f c, h c⟩ : Dev nD) = nb .cw c := Fin.ext (e c)
/-- The left neighbour. -/
theorem dev_ccw {f : Dev nD → ℕ} (h : ∀ c, f c < nD) (e : ∀ c : Dev nD, f c = (nb .ccw c).val) (c : Dev nD) : (⟨f c, h c⟩ : Dev nD) = nb .ccw c := Fin.ext (e c)

section Segments

variable {m K}
variable {c : Dev nD} {α : Type} {Q : α → sProp (MR F)} {k : PUnit → KProg F α}

/-- The neighbours meet. -/
theorem entry_step :
    iprop(Γ m K ∗ Owes c (dues c duesAll) ∗ Tok (nb .ccw c, kBar) 0 .cw ∗ Tok (nb .cw c, kBar) 0 .ccw ∗ Both (fun d => Some c (rcvM d))
        ∗ Crd (c, kBar) 0 2 ∗ At (c, kBar) 0)
      ⊢ iprop(((Owes c (dues c dues0) ∗ Zero c (.reg barSem) ∗ Both (fun d => Some (nb d c) (rcvM d))) -∗ WP c (k ⟨⟩) Q)
          -∗ WP c (entry c >>= k) Q) := by
  unfold entry
  simp only [bind_assoc]
  rw [dev_ccw k0_dev1_lt (by decide) c, dev_cw k0_dev2_lt (by decide) c]
  iintro ⟨#HG, HO, Ht, Ht', ⟨Hb, Hb'⟩, Hc, Ha⟩ Hk
  ihave #Hr := (Γ_rch m K (nb .ccw c, kBar)) $$ HG
  ihave #Hr' := (Γ_rch m K (nb .cw c, kBar)) $$ HG
  iapply (signal_step (m := m) (K := K) (e := .ccw) (d := .cw) (ck := kBar) (r := 0) (l := (.cw, kBar, 0) :: dues0) rfl (by decide) rfl) $$ [HO Ht Hb]
  · isplitr; · iexact HG
    isplitl [HO]; · iexact HO
    isplitl [Ht]; · iexact Ht
    isplitl [Hb]
    · iapply (Entails.of_eq (show Some c (rcvM .cw) = payC m (nb .ccw c, kBar) 0 .cw by
        rw [show payC m (nb .ccw c, kBar) 0 .cw = Some (nb .cw (nb .ccw c)) (rcvM .cw) from rfl, show nb .cw (nb .ccw c) = c from nb_prv .cw c])) $$ Hb
    iexact Hr
  iintro HO
  iapply (signal_step (m := m) (K := K) (e := .cw) (d := .ccw) (ck := kBar) (r := 0) (l := dues0) rfl (by decide) rfl) $$ [HO Ht' Hb']
  · isplitr; · iexact HG
    isplitl [HO]; · iexact HO
    isplitl [Ht']; · iexact Ht'
    isplitl [Hb']
    · iapply (Entails.of_eq (show Some c (rcvM .ccw) = payC m (nb .cw c, kBar) 0 .ccw by
        rw [show payC m (nb .cw c, kBar) 0 .ccw = Some (nb .ccw (nb .cw c)) (rcvM .ccw) from rfl, show nb .ccw (nb .cw c) = c from nb_prv .ccw c])) $$ Hb'
    iexact Hr'
  iintro HO
  iapply (barrier_step (m := m) (K := K) (l := dues0) (by decide)) $$ [HO Hc Ha]
  · isplitr; · iexact HG
    isplitl [Hc]; · iexact Hc
    isplitl [HO]; · iexact HO
    iexact Ha
  iintro ⟨HO, Hz, Hb, Hb'⟩
  iapply Hk
  isplitl [HO]; · iexact HO
  isplitl [Hz]; · iexact Hz
  isplitl [Hb]; · iexact Hb
  iexact Hb'

/-- The product of the device's own chunk, in both directions. -/
theorem local0_step :
    iprop(Γ m K ∗ Owes c (dues c dues0) ∗ BIdle m c ∗ Both (fun d => iprop(Some c (chM d) ∗ Zero c (.dma (aSem d))))
        ∗ Both (fun d => AChunk m c d 0) ∗ Both (fun d => AChunk m c d 1) ∗ Both (fun d => Some c (accM d)))
      ⊢ iprop(((Owes c (dues c dues0) ∗ BBusy m c ∗ Both (fun d => AFly m c d 1) ∗ Both (fun d => AChunk m c d 0)
              ∗ Both (fun d => Own c (accM d) fullShare (accV m d 0 c))) -∗ WP c (k ⟨⟩) Q)
          -∗ WP c (local0 c >>= k) Q) := by
  unfold local0
  simp only [bind_assoc]
  iintro ⟨#HG, HO, HB, ⟨⟨Hc, Hz⟩, Hcz'⟩, ⟨Ha, Ha'⟩, Hn, ⟨Hv, Hv'⟩⟩ Hk
  unfold BIdle
  icases HB with ⟨Hf0, Hr0, Hf1, HR⟩
  iapply (startB_step (m := m) (p := 0) rfl) $$ [Hf0 Hr0]
  · isplitl [Hf0]; · iexact Hf0
    iexact Hr0
  iintro HB
  iapply (startA_step (m := m) (off1_eq c)) $$ [Hc Hz Ha]
  · isplitl [Ha]; · iexact Ha
    isplitl [Hc]; · iexact Hc
    iexact Hz
  iintro Hf
  iapply (waitA_step (m := m) (K := K) (l := dues0) (off1_eq c) (by decide)) $$ [HO Hf]
  · isplitr; · iexact HG
    isplitl [HO]; · iexact HO
    iexact Hf
  iintro ⟨HO, Hc, Ha, Hz⟩
  ihave Hc := (own_halves (F := F)) $$ Hc
  icases Hc with ⟨Hc1, Hc2⟩
  iapply (mmAll_step (m := m) (K := K) (l := dues0) (by decide)) $$ [HO HB Hf1 HR Hc1 Hc2 Hv Hv']
  · isplitr; · iexact HG
    isplitl [HO]; · iexact HO
    isplitl [HB Hf1 HR]
    · isplitl [HB]; · iexact HB
      isplitl [Hf1]; · iexact Hf1
      iexact HR
    isplitl [Hc1]; · iexact Hc1
    isplitl [Hc2]; · iexact Hc2
    isplitl [Hv]; · iexact Hv
    iexact Hv'
  iintro ⟨HO, HB, Hc1, Hc2, Hv, Hv'⟩
  ihave Hc := (own_join (F := F)) $$ [Hc1 Hc2]
  · isplitl [Hc1]; · iexact Hc1
    iexact Hc2
  iapply (next_step (m := m) (off2_eq c) (off3_eq c)) $$ [HB Hc Hz Hcz' Hn]
  · isplitl [HB]; · unfold BIdle; iexact HB
    isplitl [Hc Hz Hcz']
    · isplitl [Hc Hz]
      · isplitl [Hc]; · iapply some_intro; iexact Hc
        iexact Hz
      iexact Hcz'
    iexact Hn
  iintro ⟨HB, Hf⟩
  iapply Hk
  isplitl [HO]; · iexact HO
  isplitl [HB]; · iexact HB
  isplitl [Hf]; · iexact Hf
  isplitl [Ha Ha']
  · isplitl [Ha]; · iexact Ha
    iexact Ha'
  isplitl [Hv]; · iexact Hv
  iexact Hv'

/-- What is held through every hop of the first half: the accumulators after `s` hops, the buffer to send from, the chunks of
    the next stage on their way, and `B`. -/
abbrev RS (c : Dev nD) (s : ℕ) : sProp (MR F) :=
  iprop(Both (fun d => Own c (accM d) fullShare (accV m d s c)) ∗ Both (fun d => Some c (sndM d)) ∗ Both (fun d => AFly m c d (s + 1)) ∗ BBusy m c)

/-- The first hop. -/
theorem rs0_step :
    iprop(Γ m K ∗ Owes c (dues c dues0) ∗ RS (m := m) c 0 ∗ Both (fun d => AChunk m c d 2) ∗ Both (fun d => Hop c d 0)
        ∗ Both (fun d => Some (nb d c) (rcvM d)) ∗ Both (fun d => Tok (prv d c, kCr d) 0 .cw))
      ⊢ iprop(((Owes c (dues c dues1) ∗ RS (m := m) c 1 ∗ Both (fun d => AChunk m c d 1) ∗ Both (fun d => HopDone c d 0)) -∗ WP c (k ⟨⟩) Q)
          -∗ WP c (rs0 c >>= k) Q) := by
  unfold rs0
  simp only [bind_assoc]
  iintro ⟨#HG, HO, ⟨Hv, Hs, Hf, HB⟩, Hn, Hh, ⟨Hb, Hb'⟩, Ht⟩ Hk
  iapply (narrow2_step (X := fun d => accV m d 0 c)) $$ [Hv Hs]
  · isplitl [Hv]; · iexact Hv
    iexact Hs
  iintro ⟨⟨Hv, Hv'⟩, Hs⟩
  ihave #Hr := (Γ_rch m K (c, kCr .cw)) $$ HG
  ihave #Hr' := (Γ_rch m K (c, kCr .ccw)) $$ HG
  iapply (send2_step (m := m) (K := K) (n := 0) (l := dueCr 0 ++ dues1) (dev_cw k0_dev3_lt (by decide) c) (dev_ccw k0_dev4_lt (by decide) c)) $$ [HO Hh Hs Hb Hb']
  · isplitr; · iexact HG
    isplitl [HO]; · iexact HO
    isplitl [Hh]; · iexact Hh
    isplitl [Hs]; · iexact Hs
    isplitl [Hb]
    · isplitl [Hb]; · iexact Hb
      iexact Hr
    isplitl [Hb']; · iexact Hb'
    iexact Hr'
  iintro ⟨HO, Hh⟩
  iapply (mid_step (m := m) (K := K) (l := dueCr 0 ++ dues1) (off2_eq c) (off3_eq c) (by decide)) $$ [HO Hf HB Hv Hv']
  · isplitr; · iexact HG
    isplitl [HO]; · iexact HO
    isplitl [Hf]; · iexact Hf
    isplitl [HB]; · iexact HB
    isplitl [Hv]; · iapply some_intro; iexact Hv
    iapply some_intro; iexact Hv'
  iintro ⟨HO, HB, Hcz, Ha, Hv⟩
  iapply (next_step (m := m) (off4_eq0 c) (off5_eq0 c)) $$ [HB Hcz Hn]
  · isplitl [HB]; · iexact HB
    isplitl [Hcz]; · iexact Hcz
    iexact Hn
  iintro ⟨HB, Hf⟩
  iapply (waitHop_step (m := m) (K := K) (n := 0) (l := dueCr 0 ++ dues1) (by decide) (by decide)) $$ [HO Hh]
  · isplitr; · iexact HG
    isplitl [HO]; · iexact HO
    iexact Hh
  iintro ⟨HO, Hd, Hs, Hl, #Hrp⟩
  iapply (addRcv2_step (X := fun d => part m d (chunk d 1 c) c) (Y := fun d => landV m d 0 c)) $$ [Hv Hl]
  · isplitl [Hv]; · iexact Hv
    iexact Hl
  iintro ⟨Hv, ⟨Hl, Hl'⟩⟩
  iapply (giveCr2_step (m := m) (K := K) (r := 0) (l := dues1) (by decide) (dev_ccw k0_dev5_lt (by decide) c) (dev_cw k0_dev6_lt (by decide) c)) $$ [HO Ht Hl Hl']
  · isplitr; · iexact HG
    isplitl [HO]; · iexact HO
    isplitl [Ht]; · iexact Ht
    isplitl [Hl Hl']
    · isplitl [Hl]; · iapply some_intro; iexact Hl
      iapply some_intro; iexact Hl'
    iexact Hrp
  iintro HO
  iapply Hk
  isplitl [HO]; · iexact HO
  isplitl [Hv Hs Hf HB]
  · isplitl [Hv]; · iexact Hv
    isplitl [Hs]; · iexact Hs
    isplitl [Hf]; · iexact Hf
    iexact HB
  isplitl [Ha]; · iexact Ha
  iexact Hd

/-- The second hop, once the credit of the first has come back. -/
theorem rs1_step :
    iprop(Γ m K ∗ Owes c (dues c dues1) ∗ RS (m := m) c 1 ∗ Both (fun d => AChunk m c d 3) ∗ Both (fun d => Hop c d 1)
        ∗ Both (fun d => Crd (c, kCr d) 0 1) ∗ Both (fun d => At (c, kCr d) 0) ∗ Both (fun d => Tok (prv d c, kCr d) 1 .cw))
      ⊢ iprop(((Owes c (dues c dues2) ∗ RS (m := m) c 2 ∗ Both (fun d => AChunk m c d 2) ∗ Both (fun d => HopDone c d 1) ∗ Both (fun d => At (c, kCr d) 1))
            -∗ WP c (k ⟨⟩) Q) -∗ WP c (rs1 c >>= k) Q) := by
  unfold rs1
  simp only [bind_assoc]
  iintro ⟨#HG, HO, ⟨Hv, Hs, Hf, HB⟩, Hn, Hh, Hc, Hat, Ht⟩ Hk
  iapply (narrow2_step (X := fun d => accV m d 1 c)) $$ [Hv Hs]
  · isplitl [Hv]; · iexact Hv
    iexact Hs
  iintro ⟨⟨Hv, Hv'⟩, Hs⟩
  iapply (takeCr2_step (m := m) (K := K) (r := 0) (l := dues1) (by decide) (by decide)) $$ [HO Hc Hat]
  · isplitr; · iexact HG
    isplitl [HO]; · iexact HO
    isplitl [Hc]; · iexact Hc
    iexact Hat
  iintro ⟨HO, Hat, Hb⟩
  iapply (send2_step (m := m) (K := K) (n := 1) (l := dueCr 1 ++ dues2) (dev_cw k0_dev7_lt (by decide) c) (dev_ccw k0_dev8_lt (by decide) c)) $$ [HO Hh Hs Hb]
  · isplitr; · iexact HG
    isplitl [HO]; · iexact HO
    isplitl [Hh]; · iexact Hh
    isplitl [Hs]; · iexact Hs
    iexact Hb
  iintro ⟨HO, Hh⟩
  iapply (mid_step (m := m) (K := K) (l := dueCr 1 ++ dues2) (off4_eq0 c) (off5_eq0 c) (by decide)) $$ [HO Hf HB Hv Hv']
  · isplitr; · iexact HG
    isplitl [HO]; · iexact HO
    isplitl [Hf]; · iexact Hf
    isplitl [HB]; · iexact HB
    isplitl [Hv]; · iapply some_intro; iexact Hv
    iapply some_intro; iexact Hv'
  iintro ⟨HO, HB, Hcz, Ha, Hv⟩
  iapply (next_step (m := m) (off4_eq1 c) (off5_eq1 c)) $$ [HB Hcz Hn]
  · isplitl [HB]; · iexact HB
    isplitl [Hcz]; · iexact Hcz
    iexact Hn
  iintro ⟨HB, Hf⟩
  iapply (waitHop_step (m := m) (K := K) (n := 1) (l := dueCr 1 ++ dues2) (by decide) (by decide)) $$ [HO Hh]
  · isplitr; · iexact HG
    isplitl [HO]; · iexact HO
    iexact Hh
  iintro ⟨HO, Hd, Hs, Hl, #Hrp⟩
  iapply (addRcv2_step (X := fun d => part m d (chunk d 2 c) c) (Y := fun d => landV m d 1 c)) $$ [Hv Hl]
  · isplitl [Hv]; · iexact Hv
    iexact Hl
  iintro ⟨Hv, ⟨Hl, Hl'⟩⟩
  iapply (giveCr2_step (m := m) (K := K) (r := 1) (l := dues2) (by decide) (dev_ccw k0_dev9_lt (by decide) c) (dev_cw k0_dev10_lt (by decide) c)) $$ [HO Ht Hl Hl']
  · isplitr; · iexact HG
    isplitl [HO]; · iexact HO
    isplitl [Ht]; · iexact Ht
    isplitl [Hl Hl']
    · isplitl [Hl]; · iapply some_intro; iexact Hl
      iapply some_intro; iexact Hl'
    iexact Hrp
  iintro HO
  iapply Hk
  isplitl [HO]; · iexact HO
  isplitl [Hv Hs Hf HB]
  · isplitl [Hv]; · iexact Hv
    isplitl [Hs]; · iexact Hs
    isplitl [Hf]; · iexact Hf
    iexact HB
  isplitl [Ha]; · iexact Ha
  isplitl [Hd]; · iexact Hd
  iexact Hat

/-- The third hop: the accumulators now hold the device's own chunks of the result. -/
theorem rs2_step :
    iprop(Γ m K ∗ Owes c (dues c dues2) ∗ RS (m := m) c 2 ∗ Both (fun d => Hop c d 2)
        ∗ Both (fun d => Crd (c, kCr d) 1 1) ∗ Both (fun d => At (c, kCr d) 1) ∗ Both (fun d => Tok (prv d c, kCr d) 2 .cw))
      ⊢ iprop(((Owes c (dues c dues3) ∗ Both (fun d => Own c (accM d) fullShare (accV m d 3 c)) ∗ Both (fun d => Some c (sndM d)) ∗ BIdle m c
              ∗ Both (fun d => iprop(Some c (chM d) ∗ Zero c (.dma (aSem d)))) ∗ Both (fun d => AChunk m c d 3) ∗ Both (fun d => HopDone c d 2)
              ∗ Both (fun d => At (c, kCr d) 2))
            -∗ WP c (k ⟨⟩) Q) -∗ WP c (rs2 c >>= k) Q) := by
  unfold rs2
  simp only [bind_assoc]
  iintro ⟨#HG, HO, ⟨Hv, Hs, Hf, HB⟩, Hh, Hc, Hat, Ht⟩ Hk
  iapply (narrow2_step (X := fun d => accV m d 2 c)) $$ [Hv Hs]
  · isplitl [Hv]; · iexact Hv
    iexact Hs
  iintro ⟨⟨Hv, Hv'⟩, Hs⟩
  iapply (takeCr2_step (m := m) (K := K) (r := 1) (l := dues2) (by decide) (by decide)) $$ [HO Hc Hat]
  · isplitr; · iexact HG
    isplitl [HO]; · iexact HO
    isplitl [Hc]; · iexact Hc
    iexact Hat
  iintro ⟨HO, Hat, Hb⟩
  iapply (send2_step (m := m) (K := K) (n := 2) (l := dueCr 2 ++ dues3) (dev_cw k0_dev11_lt (by decide) c) (dev_ccw k0_dev12_lt (by decide) c)) $$ [HO Hh Hs Hb]
  · isplitr; · iexact HG
    isplitl [HO]; · iexact HO
    isplitl [Hh]; · iexact Hh
    isplitl [Hs]; · iexact Hs
    iexact Hb
  iintro ⟨HO, Hh⟩
  iapply (mid_step (m := m) (K := K) (l := dueCr 2 ++ dues3) (off4_eq1 c) (off5_eq1 c) (by decide)) $$ [HO Hf HB Hv Hv']
  · isplitr; · iexact HG
    isplitl [HO]; · iexact HO
    isplitl [Hf]; · iexact Hf
    isplitl [HB]; · iexact HB
    isplitl [Hv]; · iapply some_intro; iexact Hv
    iapply some_intro; iexact Hv'
  iintro ⟨HO, HB, Hcz, Ha, Hv⟩
  iapply (waitHop_step (m := m) (K := K) (n := 2) (l := dueCr 2 ++ dues3) (by decide) (by decide)) $$ [HO Hh]
  · isplitr; · iexact HG
    isplitl [HO]; · iexact HO
    iexact Hh
  iintro ⟨HO, Hd, Hs, Hl, #Hrp⟩
  iapply (addRcv2_step (X := fun d => part m d (chunk d 3 c) c) (Y := fun d => landV m d 2 c)) $$ [Hv Hl]
  · isplitl [Hv]; · iexact Hv
    iexact Hl
  iintro ⟨Hv, ⟨Hl, Hl'⟩⟩
  iapply (giveCr2_step (m := m) (K := K) (r := 2) (l := dues3) (by decide) (dev_ccw k0_dev13_lt (by decide) c) (dev_cw k0_dev14_lt (by decide) c)) $$ [HO Ht Hl Hl']
  · isplitr; · iexact HG
    isplitl [HO]; · iexact HO
    isplitl [Ht]; · iexact Ht
    isplitl [Hl Hl']
    · isplitl [Hl]; · iapply some_intro; iexact Hl
      iapply some_intro; iexact Hl'
    iexact Hrp
  iintro HO
  iapply Hk
  isplitl [HO]; · iexact HO
  isplitl [Hv]; · iexact Hv
  isplitl [Hs]; · iexact Hs
  isplitl [HB]; · iexact HB
  isplitl [Hcz]; · iexact Hcz
  isplitl [Ha]; · iexact Ha
  isplitl [Hd]; · iexact Hd
  iexact Hat

/-- The block of stage `s` of the result, before it is written, -/
abbrev OEmpty (c : Dev nD) (s : ℕ) (d : Dir) : sProp (MR F) := Some c (oM d (chunk d s c))
/-- and after. -/
abbrev OFull (c : Dev nD) (s : Fin 4) (d : Dir) : sProp (MR F) := Own c (oM d (chunk d s.val c)) fullShare (outV m d s c)

/-- The fourth hop: the own chunks go out and around; the first gathered ones arrive and go out. -/
theorem ag0_step :
    iprop(Γ m K ∗ Owes c (dues c dues3) ∗ Both (fun d => Own c (accM d) fullShare (accV m d 3 c)) ∗ Both (fun d => Some c (sndM d)) ∗ Both (fun d => Hop c d 3)
        ∗ Both (fun d => Crd (c, kCr d) 2 1) ∗ Both (fun d => At (c, kCr d) 2) ∗ Both (fun d => Tok (prv d c, kCr d) 3 .cw)
        ∗ Both (fun d => Some c (chM d)) ∗ Both (OEmpty c 3) ∗ Both (OEmpty c 0) ∗ Both (fun d => Zero c (.dma (stSem d 0))) ∗ Both (fun d => Zero c (.dma (stSem d 1))))
      ⊢ iprop(((Owes c (dues c dues4) ∗ Both (fun d => OFly c d 0 (chunk d 3 c) fullShare.left (accV m d 3 c)) ∗ Both (fun d => Own c (accM d) fullShare.right (accV m d 3 c))
              ∗ Both (fun d => OFly c d 1 (chunk d 0 c) fullShare (payE (landV m d 3 c))) ∗ Both (fun d => Own c (rcvM d) fullShare (landV m d 3 c))
              ∗ Both (fun d => HopDone c d 3) ∗ Both (fun d => At (c, kCr d) 3))
            -∗ WP c (k ⟨⟩) Q) -∗ WP c (ag0 c >>= k) Q) := by
  unfold ag0
  simp only [bind_assoc]
  iintro ⟨#HG, HO, ⟨Hv, Hv'⟩, Hs, Hh, Hc, Hat, Ht, Hch, ⟨Ho3, Ho3'⟩, ⟨Ho0, Ho0'⟩, ⟨Hz0, Hz0'⟩, ⟨Hz1, Hz1'⟩⟩ Hk
  ihave Hv := (own_halves (F := F)) $$ Hv
  icases Hv with ⟨Hl, Hv⟩
  ihave Hv' := (own_halves (F := F)) $$ Hv'
  icases Hv' with ⟨Hl', Hv'⟩
  iapply (startO_step (d := .cw) (j := 0) (q := chunk .cw 3 c) (π := fullShare.left) (X := accV m .cw 3 c) (off6_eq c)) $$ [Hl Ho3 Hz0]
  · isplitl [Hl]; · iexact Hl
    isplitl [Ho3]; · iexact Ho3
    iexact Hz0
  iintro Hf0
  iapply (startO_step (d := .ccw) (j := 0) (q := chunk .ccw 3 c) (π := fullShare.left) (X := accV m .ccw 3 c) (off7_eq3 c)) $$ [Hl' Ho3' Hz0']
  · isplitl [Hl']; · iexact Hl'
    isplitl [Ho3']; · iexact Ho3'
    iexact Hz0'
  iintro Hf0'
  iapply (narrow2_step (π := fullShare.right) (X := fun d => accV m d 3 c)) $$ [Hv Hv' Hs]
  · isplitl [Hv Hv']
    · isplitl [Hv]; · iexact Hv
      iexact Hv'
    iexact Hs
  iintro ⟨Hv, Hs⟩
  iapply (takeCr2_step (m := m) (K := K) (r := 2) (l := dues3) (by decide) (by decide)) $$ [HO Hc Hat]
  · isplitr; · iexact HG
    isplitl [HO]; · iexact HO
    isplitl [Hc]; · iexact Hc
    iexact Hat
  iintro ⟨HO, Hat, Hb⟩
  iapply (send2_step (m := m) (K := K) (n := 3) (l := dueCr 3 ++ dues4) (dev_cw k0_dev15_lt (by decide) c) (dev_ccw k0_dev16_lt (by decide) c)) $$ [HO Hh Hs Hb]
  · isplitr; · iexact HG
    isplitl [HO]; · iexact HO
    isplitl [Hh]; · iexact Hh
    isplitl [Hs]; · iexact Hs
    iexact Hb
  iintro ⟨HO, Hh⟩
  iapply (waitHop_step (m := m) (K := K) (n := 3) (l := dueCr 3 ++ dues4) (by decide) (by decide)) $$ [HO Hh]
  · isplitr; · iexact HG
    isplitl [HO]; · iexact HO
    iexact Hh
  iintro ⟨HO, Hd, Hs, Hl, #Hrp⟩
  iapply (giveCr2_step (m := m) (K := K) (r := 3) (l := dues4) (by decide) (dev_ccw k0_dev17_lt (by decide) c) (dev_cw k0_dev18_lt (by decide) c)) $$ [HO Ht Hs]
  · isplitr; · iexact HG
    isplitl [HO]; · iexact HO
    isplitl [Ht]; · iexact Ht
    isplitl [Hs]; · iexact Hs
    iexact Hrp
  iintro HO
  iapply (widen2_step (src := rcvM) (dst := chM) (Y := fun d => landV m d 3 c)) $$ [Hl Hch]
  · isplitl [Hl]; · iexact Hl
    iexact Hch
  iintro ⟨Hl, ⟨Hch, Hch'⟩⟩
  iapply (startO_step (d := .cw) (j := 1) (q := chunk .cw 0 c) (π := fullShare) (X := payE (landV m .cw 3 c)) (off8_eq0 c)) $$ [Hch Ho0 Hz1]
  · isplitl [Hch]; · iexact Hch
    isplitl [Ho0]; · iexact Ho0
    iexact Hz1
  iintro Hf1
  iapply (startO_step (d := .ccw) (j := 1) (q := chunk .ccw 0 c) (π := fullShare) (X := payE (landV m .ccw 3 c)) (off7_eq0 c)) $$ [Hch' Ho0' Hz1']
  · isplitl [Hch']; · iexact Hch'
    isplitl [Ho0']; · iexact Ho0'
    iexact Hz1'
  iintro Hf1'
  iapply Hk
  isplitl [HO]; · iexact HO
  isplitl [Hf0 Hf0']
  · isplitl [Hf0]; · iexact Hf0
    iexact Hf0'
  isplitl [Hv]; · iexact Hv
  isplitl [Hf1 Hf1']
  · isplitl [Hf1]; · iexact Hf1
    iexact Hf1'
  isplitl [Hl]; · iexact Hl
  isplitl [Hd]; · iexact Hd
  iexact Hat

/-- The fifth hop sends on what came in the fourth. -/
theorem ag1_step :
    iprop(Γ m K ∗ Owes c (dues c dues4) ∗ Both (fun d => OFly c d 0 (chunk d 3 c) fullShare.left (accV m d 3 c)) ∗ Both (fun d => Own c (accM d) fullShare.right (accV m d 3 c))
        ∗ Both (fun d => Own c (rcvM d) fullShare (landV m d 3 c)) ∗ Both (fun d => Hop c d 4)
        ∗ Both (fun d => Crd (c, kCr d) 3 1) ∗ Both (fun d => At (c, kCr d) 3) ∗ Both (fun d => Tok (prv d c, kCr d) 4 .cw)
        ∗ Both (OEmpty c 1) ∗ Both (fun d => Zero c (.dma (stSem d 2))))
      ⊢ iprop(((Owes c (dues c dues5) ∗ Both (OFull (m := m) c 3) ∗ Both (fun d => Zero c (.dma (stSem d 0)))
              ∗ Both (fun d => OFly c d 2 (chunk d 1 c) fullShare (payE (landV m d 4 c))) ∗ Both (fun d => Own c (sndM d) fullShare (landV m d 4 c))
              ∗ Both (fun d => HopDone c d 4) ∗ Both (fun d => At (c, kCr d) 4))
            -∗ WP c (k ⟨⟩) Q) -∗ WP c (ag1 c >>= k) Q) := by
  unfold ag1
  simp only [bind_assoc]
  iintro ⟨#HG, HO, ⟨Hf0, Hf0'⟩, ⟨Hv, Hv'⟩, Hs, Hh, Hc, Hat, Ht, ⟨Ho1, Ho1'⟩, ⟨Hz2, Hz2'⟩⟩ Hk
  iapply (takeCr2_step (m := m) (K := K) (r := 3) (l := dues4) (by decide) (by decide)) $$ [HO Hc Hat]
  · isplitr; · iexact HG
    isplitl [HO]; · iexact HO
    isplitl [Hc]; · iexact Hc
    iexact Hat
  iintro ⟨HO, Hat, Hb⟩
  iapply (send2_step (m := m) (K := K) (n := 4) (l := dueCr 4 ++ dues5) (dev_cw k0_dev19_lt (by decide) c) (dev_ccw k0_dev20_lt (by decide) c)) $$ [HO Hh Hs Hb]
  · isplitr; · iexact HG
    isplitl [HO]; · iexact HO
    isplitl [Hh]; · iexact Hh
    isplitl [Hs]; · iexact Hs
    iexact Hb
  iintro ⟨HO, Hh⟩
  iapply (waitHop_step (m := m) (K := K) (n := 4) (l := dueCr 4 ++ dues5) (by decide) (by decide)) $$ [HO Hh]
  · isplitr; · iexact HG
    isplitl [HO]; · iexact HO
    iexact Hh
  iintro ⟨HO, Hd, Hs, Hl, #Hrp⟩
  iapply (giveCr2_step (m := m) (K := K) (r := 4) (l := dues5) (by decide) (dev_ccw k0_dev21_lt (by decide) c) (dev_cw k0_dev22_lt (by decide) c)) $$ [HO Ht Hs]
  · isplitr; · iexact HG
    isplitl [HO]; · iexact HO
    isplitl [Ht]; · iexact Ht
    isplitl [Hs]; · iexact Hs
    iexact Hrp
  iintro HO
  iapply (waitO_step (m := m) (K := K) (l := dues5) (off6_eq c) (by decide)) $$ [HO Hf0]
  · isplitr; · iexact HG
    isplitl [HO]; · iexact HO
    iexact Hf0
  iintro ⟨HO, Ho3, Hw, Hz0⟩
  iapply (waitO_step (m := m) (K := K) (l := dues5) (off7_eq3 c) (by decide)) $$ [HO Hf0']
  · isplitr; · iexact HG
    isplitl [HO]; · iexact HO
    iexact Hf0'
  iintro ⟨HO, Ho3', Hw', Hz0'⟩
  ihave Hv := (own_join (F := F) (m := accM .cw) (X := accV m .cw 3 c)) $$ [Hw Hv]
  · isplitl [Hw]; · iexact Hw
    iexact Hv
  ihave Hv' := (own_join (F := F) (m := accM .ccw) (X := accV m .ccw 3 c)) $$ [Hw' Hv']
  · isplitl [Hw']; · iexact Hw'
    iexact Hv'
  iapply (widen2_step (src := sndM) (dst := accM) (Y := fun d => landV m d 4 c)) $$ [Hl Hv Hv']
  · isplitl [Hl]; · iexact Hl
    isplitl [Hv]; · iapply some_intro; iexact Hv
    iapply some_intro; iexact Hv'
  iintro ⟨Hl, ⟨Hv, Hv'⟩⟩
  iapply (startO_step (d := .cw) (j := 2) (q := chunk .cw 1 c) (π := fullShare) (X := payE (landV m .cw 4 c)) (off8_eq1 c)) $$ [Hv Ho1 Hz2]
  · isplitl [Hv]; · iexact Hv
    isplitl [Ho1]; · iexact Ho1
    iexact Hz2
  iintro Hf2
  iapply (startO_step (d := .ccw) (j := 2) (q := chunk .ccw 1 c) (π := fullShare) (X := payE (landV m .ccw 4 c)) (off7_eq1 c)) $$ [Hv' Ho1' Hz2']
  · isplitl [Hv']; · iexact Hv'
    isplitl [Ho1']; · iexact Ho1'
    iexact Hz2'
  iintro Hf2'
  iapply Hk
  isplitl [HO]; · iexact HO
  isplitl [Ho3 Ho3']
  · isplitl [Ho3]; · iexact Ho3
    iexact Ho3'
  isplitl [Hz0 Hz0']
  · isplitl [Hz0]; · iexact Hz0
    iexact Hz0'
  isplitl [Hf2 Hf2']
  · isplitl [Hf2]; · iexact Hf2
    iexact Hf2'
  isplitl [Hl]; · iexact Hl
  isplitl [Hd]; · iexact Hd
  iexact Hat

/-- The last hop. -/
theorem ag2_step :
    iprop(Γ m K ∗ Owes c (dues c dues5) ∗ Both (fun d => OFly c d 1 (chunk d 0 c) fullShare (payE (landV m d 3 c)))
        ∗ Both (fun d => Own c (sndM d) fullShare (landV m d 4 c)) ∗ Both (fun d => Hop c d 5)
        ∗ Both (fun d => Crd (c, kCr d) 4 1) ∗ Both (fun d => At (c, kCr d) 4)
        ∗ Both (OEmpty c 2) ∗ Both (fun d => Zero c (.dma (stSem d 3))))
      ⊢ iprop(((Owes c (dues c []) ∗ Both (OFull (m := m) c 0) ∗ Both (fun d => Zero c (.dma (stSem d 1)))
              ∗ Both (fun d => OFly c d 3 (chunk d 2 c) fullShare (payE (landV m d 5 c))) ∗ Both (fun d => Some c (sndM d)) ∗ Both (fun d => Some c (rcvM d))
              ∗ Both (fun d => HopDone c d 5) ∗ Both (fun d => Zero c (.reg (crSem d))))
            -∗ WP c (k ⟨⟩) Q) -∗ WP c (ag2 c >>= k) Q) := by
  unfold ag2
  simp only [bind_assoc]
  iintro ⟨#HG, HO, ⟨Hf1, Hf1'⟩, Hs, Hh, Hc, Hat, ⟨Ho2, Ho2'⟩, ⟨Hz3, Hz3'⟩⟩ Hk
  iapply (takeCr2_step (m := m) (K := K) (r := 4) (l := dues5) (by decide) (by decide)) $$ [HO Hc Hat]
  · isplitr; · iexact HG
    isplitl [HO]; · iexact HO
    isplitl [Hc]; · iexact Hc
    iexact Hat
  iintro ⟨HO, ⟨Hat, Hat'⟩, Hb⟩
  imod (close_step (m := m) (K := K) (kCr .cw) 5 le_rfl) $$ [Hat] with Hzc
  · isplitr; · iexact HG
    iexact Hat
  imod (close_step (m := m) (K := K) (kCr .ccw) 5 le_rfl) $$ [Hat'] with Hzc'
  · isplitr; · iexact HG
    iexact Hat'
  iapply (send2_step (m := m) (K := K) (n := 5) (l := []) (dev_cw k0_dev23_lt (by decide) c) (dev_ccw k0_dev24_lt (by decide) c)) $$ [HO Hh Hs Hb]
  · isplitr; · iexact HG
    isplitl [HO]; · iexact HO
    isplitl [Hh]; · iexact Hh
    isplitl [Hs]; · iexact Hs
    iexact Hb
  iintro ⟨HO, Hh⟩
  iapply (waitHop_step (m := m) (K := K) (n := 5) (l := []) (by decide) (by decide)) $$ [HO Hh]
  · isplitr; · iexact HG
    isplitl [HO]; · iexact HO
    iexact Hh
  iintro ⟨HO, Hd, Hs, Hl, -⟩
  iapply (waitO_step (m := m) (K := K) (l := []) (off8_eq0 c) (by decide)) $$ [HO Hf1]
  · isplitr; · iexact HG
    isplitl [HO]; · iexact HO
    iexact Hf1
  iintro ⟨HO, Ho0, Hw, Hz1⟩
  iapply (waitO_step (m := m) (K := K) (l := []) (off7_eq0 c) (by decide)) $$ [HO Hf1']
  · isplitr; · iexact HG
    isplitl [HO]; · iexact HO
    iexact Hf1'
  iintro ⟨HO, Ho0', Hw', Hz1'⟩
  iapply (widen2_step (src := rcvM) (dst := chM) (Y := fun d => landV m d 5 c)) $$ [Hl Hw Hw']
  · isplitl [Hl]; · iexact Hl
    isplitl [Hw]; · iapply some_intro; iexact Hw
    iapply some_intro; iexact Hw'
  iintro ⟨⟨Hl, Hl'⟩, ⟨Hv, Hv'⟩⟩
  iapply (startO_step (d := .cw) (j := 3) (q := chunk .cw 2 c) (π := fullShare) (X := payE (landV m .cw 5 c)) (off8_eq2 c)) $$ [Hv Ho2 Hz3]
  · isplitl [Hv]; · iexact Hv
    isplitl [Ho2]; · iexact Ho2
    iexact Hz3
  iintro Hf3
  iapply (startO_step (d := .ccw) (j := 3) (q := chunk .ccw 2 c) (π := fullShare) (X := payE (landV m .ccw 5 c)) (off7_eq2 c)) $$ [Hv' Ho2' Hz3']
  · isplitl [Hv']; · iexact Hv'
    isplitl [Ho2']; · iexact Ho2'
    iexact Hz3'
  iintro Hf3'
  iapply Hk
  isplitl [HO]; · iexact HO
  isplitl [Ho0 Ho0']
  · isplitl [Ho0]; · iexact Ho0
    iexact Ho0'
  isplitl [Hz1 Hz1']
  · isplitl [Hz1]; · iexact Hz1
    iexact Hz1'
  isplitl [Hf3 Hf3']
  · isplitl [Hf3]; · iexact Hf3
    iexact Hf3'
  isplitl [Hs]; · iexact Hs
  isplitl [Hl Hl']
  · isplitl [Hl]; · iapply some_intro; iexact Hl
    iapply some_intro; iexact Hl'
  isplitl [Hd]; · iexact Hd
  isplitl [Hzc]; · iexact Hzc
  iexact Hzc'

/-- The last blocks are out. -/
theorem finish_step :
    iprop(Γ m K ∗ Owes c (dues c []) ∗ Both (fun d => OFly c d 2 (chunk d 1 c) fullShare (payE (landV m d 4 c)))
        ∗ Both (fun d => OFly c d 3 (chunk d 2 c) fullShare (payE (landV m d 5 c))))
      ⊢ iprop(((Owes c (dues c []) ∗ Both (OFull (m := m) c 1) ∗ Both (OFull (m := m) c 2)
              ∗ Both (fun d => Some c (accM d)) ∗ Both (fun d => Some c (chM d))
              ∗ Both (fun d => Zero c (.dma (stSem d 2))) ∗ Both (fun d => Zero c (.dma (stSem d 3))))
            -∗ WP c (k ⟨⟩) Q) -∗ WP c (finish c >>= k) Q) := by
  unfold finish
  simp only [bind_assoc]
  iintro ⟨#HG, HO, ⟨Hf2, Hf2'⟩, ⟨Hf3, Hf3'⟩⟩ Hk
  iapply (waitO_step (m := m) (K := K) (l := []) (off8_eq1 c) (by decide)) $$ [HO Hf2]
  · isplitr; · iexact HG
    isplitl [HO]; · iexact HO
    iexact Hf2
  iintro ⟨HO, Ho1, Hv, Hz2⟩
  iapply (waitO_step (m := m) (K := K) (l := []) (off7_eq1 c) (by decide)) $$ [HO Hf2']
  · isplitr; · iexact HG
    isplitl [HO]; · iexact HO
    iexact Hf2'
  iintro ⟨HO, Ho1', Hv', Hz2'⟩
  iapply (waitO_step (m := m) (K := K) (l := []) (off8_eq2 c) (by decide)) $$ [HO Hf3]
  · isplitr; · iexact HG
    isplitl [HO]; · iexact HO
    iexact Hf3
  iintro ⟨HO, Ho2, Hw, Hz3⟩
  iapply (waitO_step (m := m) (K := K) (l := []) (off7_eq2 c) (by decide)) $$ [HO Hf3']
  · isplitr; · iexact HG
    isplitl [HO]; · iexact HO
    iexact Hf3'
  iintro ⟨HO, Ho2', Hw', Hz3'⟩
  iapply Hk
  isplitl [HO]; · iexact HO
  isplitl [Ho1 Ho1']
  · isplitl [Ho1]; · iexact Ho1
    iexact Ho1'
  isplitl [Ho2 Ho2']
  · isplitl [Ho2]; · iexact Ho2
    iexact Ho2'
  isplitl [Hv Hv']
  · isplitl [Hv]; · iapply some_intro; iexact Hv
    iapply some_intro; iexact Hv'
  isplitl [Hw Hw']
  · isplitl [Hw]; · iapply some_intro; iexact Hw
    iapply some_intro; iexact Hw'
  isplitl [Hz2 Hz2']
  · isplitl [Hz2]; · iexact Hz2
    iexact Hz2'
  isplitl [Hz3]; · iexact Hz3
  iexact Hz3'

end Segments

/-! ## The whole body -/

/-- The device's scratch buffers. -/
def Bufs (c : Dev nD) : sProp (MR F) :=
  iprop(Both (fun d => Some c (accM d)) ∗ Both (fun d => Some c (sndM d)) ∗ Both (fun d => Some c (rcvM d)) ∗ Both (fun d => Some c (chM d))
    ∗ Some c (bSlot 0) ∗ Some c (bSlot 1))
/-- The semaphores of its local copies, at rest. -/
def Sems (c : Dev nD) : sProp (MR F) :=
  iprop(Both (fun d => Zero c (.dma (aSem d))) ∗ Zero c (.dma (bSem 0)) ∗ Zero c (.dma (bSem 1))
    ∗ Both (fun d => Zero c (.dma (stSem d 0))) ∗ Both (fun d => Zero c (.dma (stSem d 1)))
    ∗ Both (fun d => Zero c (.dma (stSem d 2))) ∗ Both (fun d => Zero c (.dma (stSem d 3))))
/-- The semaphores of the protocol, out of use. -/
def Closed (c : Dev nD) : sProp (MR F) :=
  iprop(Zero c (.reg barSem) ∗ (Both (fun d => HopDone c d 0) ∗ Both (fun d => HopDone c d 1) ∗ Both (fun d => HopDone c d 2)
    ∗ Both (fun d => HopDone c d 3) ∗ Both (fun d => HopDone c d 4) ∗ Both (fun d => HopDone c d 5)) ∗ Both (fun d => Zero c (.reg (crSem d))))
/-- Its inputs. -/
def Ins (c : Dev nD) : sProp (MR F) :=
  iprop((Both (fun d => AChunk m c d 0) ∗ Both (fun d => AChunk m c d 1) ∗ Both (fun d => AChunk m c d 2) ∗ Both (fun d => AChunk m c d 3))
    ∗ BRow m c 0 ∗ BRest m c)
/-- Its result before -/
def OutsE (c : Dev nD) : sProp (MR F) := iprop(Both (OEmpty c 0) ∗ Both (OEmpty c 1) ∗ Both (OEmpty c 2) ∗ Both (OEmpty c 3))
/-- and after. -/
def OutsF (c : Dev nD) : sProp (MR F) :=
  iprop(Both (OFull (m := m) c 0) ∗ Both (OFull (m := m) c 1) ∗ Both (OFull (m := m) c 2) ∗ Both (OFull (m := m) c 3))
/-- Its part of the protocol at launch. -/
def Ghost (c : Dev nD) : sProp (MR F) :=
  iprop((Tok (nb .ccw c, kBar) 0 .cw ∗ Tok (nb .cw c, kBar) 0 .ccw ∗ Crd (c, kBar) 0 2 ∗ At (c, kBar) 0)
    ∗ (Both (fun d => Hop c d 0) ∗ Both (fun d => Hop c d 1) ∗ Both (fun d => Hop c d 2)
      ∗ Both (fun d => Hop c d 3) ∗ Both (fun d => Hop c d 4) ∗ Both (fun d => Hop c d 5))
    ∗ (Both (fun d => Tok (prv d c, kCr d) 0 .cw) ∗ Both (fun d => Tok (prv d c, kCr d) 1 .cw) ∗ Both (fun d => Tok (prv d c, kCr d) 2 .cw)
      ∗ Both (fun d => Tok (prv d c, kCr d) 3 .cw) ∗ Both (fun d => Tok (prv d c, kCr d) 4 .cw))
    ∗ (Both (fun d => Crd (c, kCr d) 0 1) ∗ Both (fun d => Crd (c, kCr d) 1 1) ∗ Both (fun d => Crd (c, kCr d) 2 1)
      ∗ Both (fun d => Crd (c, kCr d) 3 1) ∗ Both (fun d => Crd (c, kCr d) 4 1))
    ∗ Both (fun d => At (c, kCr d) 0))

variable {m K} in
/-- One device's run. -/
theorem prog_step {c : Dev nD} {α : Type} {Q : α → sProp (MR F)} {k : PUnit → KProg F α} :
    iprop(Γ m K ∗ Owes c (dues c duesAll) ∗ Ghost c ∗ Bufs c ∗ Sems c ∗ Ins m c ∗ OutsE c)
      ⊢ iprop(((Owes c (dues c []) ∗ Bufs c ∗ Sems c ∗ Closed c ∗ Ins m c ∗ OutsF m c) -∗ WP c (k ⟨⟩) Q) -∗ WP c (prog c >>= k) Q) := by
  unfold prog Ghost Bufs Sems Closed Ins OutsE OutsF
  simp only [bind_assoc]
  iintro ⟨#HG, HO, ⟨⟨Ht, Ht', Hcb, Hab⟩, ⟨Hh0, Hh1, Hh2, Hh3, Hh4, Hh5⟩, ⟨Ht0, Ht1, Ht2, Ht3, Ht4⟩, ⟨Hc0, Hc1, Hc2, Hc3, Hc4⟩, Hat⟩,
    ⟨Hacc, Hsnd, Hrcv, ⟨Hch, Hch'⟩, Hb0, Hb1⟩, ⟨⟨Hza, Hza'⟩, Hzb0, Hzb1, Hz0, Hz1, Hz2, Hz3⟩, ⟨⟨Ha0, Ha1, Ha2, Ha3⟩, Hr0, HR⟩, ⟨Ho0, Ho1, Ho2, Ho3⟩⟩ Hk
  iapply (entry_step (m := m) (K := K)) $$ [HO Ht Ht' Hcb Hab Hrcv]
  · isplitr; · iexact HG
    isplitl [HO]; · iexact HO
    isplitl [Ht]; · iexact Ht
    isplitl [Ht']; · iexact Ht'
    isplitl [Hrcv]; · iexact Hrcv
    isplitl [Hcb]; · iexact Hcb
    iexact Hab
  iintro ⟨HO, Hzbar, Hnb⟩
  iapply (local0_step (m := m) (K := K)) $$ [HO Hb0 Hb1 Hzb0 Hzb1 Hr0 HR Hch Hch' Hza Hza' Ha0 Ha1 Hacc]
  · isplitr; · iexact HG
    isplitl [HO]; · iexact HO
    isplitl [Hb0 Hb1 Hzb0 Hzb1 Hr0 HR]
    · unfold BIdle Free
      isplitl [Hb0 Hzb0]
      · isplitl [Hb0]; · iexact Hb0
        iexact Hzb0
      isplitl [Hr0]; · iexact Hr0
      isplitl [Hb1 Hzb1]
      · isplitl [Hb1]; · iexact Hb1
        iexact Hzb1
      iexact HR
    isplitl [Hch Hch' Hza Hza']
    · isplitl [Hch Hza]
      · isplitl [Hch]; · iexact Hch
        iexact Hza
      isplitl [Hch']; · iexact Hch'
      iexact Hza'
    isplitl [Ha0]; · iexact Ha0
    isplitl [Ha1]; · iexact Ha1
    iexact Hacc
  iintro ⟨HO, HB, Hf, Ha0, Hacc⟩
  iapply (rs0_step (m := m) (K := K)) $$ [HO HB Hf Hacc Hsnd Ha2 Hh0 Hnb Ht0]
  · isplitr; · iexact HG
    isplitl [HO]; · iexact HO
    isplitl [HB Hf Hacc Hsnd]
    · isplitl [Hacc]; · iexact Hacc
      isplitl [Hsnd]; · iexact Hsnd
      isplitl [Hf]; · iexact Hf
      iexact HB
    isplitl [Ha2]; · iexact Ha2
    isplitl [Hh0]; · iexact Hh0
    isplitl [Hnb]; · iexact Hnb
    iexact Ht0
  iintro ⟨HO, HRS, Ha1, Hd0⟩
  iapply (rs1_step (m := m) (K := K)) $$ [HO HRS Ha3 Hh1 Hc0 Hat Ht1]
  · isplitr; · iexact HG
    isplitl [HO]; · iexact HO
    isplitl [HRS]; · iexact HRS
    isplitl [Ha3]; · iexact Ha3
    isplitl [Hh1]; · iexact Hh1
    isplitl [Hc0]; · iexact Hc0
    isplitl [Hat]; · iexact Hat
    iexact Ht1
  iintro ⟨HO, HRS, Ha2, Hd1, Hat⟩
  iapply (rs2_step (m := m) (K := K)) $$ [HO HRS Hh2 Hc1 Hat Ht2]
  · isplitr; · iexact HG
    isplitl [HO]; · iexact HO
    isplitl [HRS]; · iexact HRS
    isplitl [Hh2]; · iexact Hh2
    isplitl [Hc1]; · iexact Hc1
    isplitl [Hat]; · iexact Hat
    iexact Ht2
  iintro ⟨HO, Hacc, Hsnd, HB, ⟨⟨Hch, Hza⟩, ⟨Hch', Hza'⟩⟩, Ha3, Hd2, Hat⟩
  unfold BIdle Free
  icases HB with ⟨⟨Hb0, Hzb0⟩, Hr0, ⟨Hb1, Hzb1⟩, HR⟩
  iapply (ag0_step (m := m) (K := K)) $$ [HO Hacc Hsnd Hh3 Hc2 Hat Ht3 Hch Hch' Ho3 Ho0 Hz0 Hz1]
  · isplitr; · iexact HG
    isplitl [HO]; · iexact HO
    isplitl [Hacc]; · iexact Hacc
    isplitl [Hsnd]; · iexact Hsnd
    isplitl [Hh3]; · iexact Hh3
    isplitl [Hc2]; · iexact Hc2
    isplitl [Hat]; · iexact Hat
    isplitl [Ht3]; · iexact Ht3
    isplitl [Hch Hch']
    · isplitl [Hch]; · iexact Hch
      iexact Hch'
    isplitl [Ho3]; · iexact Ho3
    isplitl [Ho0]; · iexact Ho0
    isplitl [Hz0]; · iexact Hz0
    iexact Hz1
  iintro ⟨HO, Hf0, Hacc, Hf1, Hrcv, Hd3, Hat⟩
  iapply (ag1_step (m := m) (K := K)) $$ [HO Hf0 Hacc Hrcv Hh4 Hc3 Hat Ht4 Ho1 Hz2]
  · isplitr; · iexact HG
    isplitl [HO]; · iexact HO
    isplitl [Hf0]; · iexact Hf0
    isplitl [Hacc]; · iexact Hacc
    isplitl [Hrcv]; · iexact Hrcv
    isplitl [Hh4]; · iexact Hh4
    isplitl [Hc3]; · iexact Hc3
    isplitl [Hat]; · iexact Hat
    isplitl [Ht4]; · iexact Ht4
    isplitl [Ho1]; · iexact Ho1
    iexact Hz2
  iintro ⟨HO, Ho3, Hz0, Hf2, Hsnd, Hd4, Hat⟩
  iapply (ag2_step (m := m) (K := K)) $$ [HO Hf1 Hsnd Hh5 Hc4 Hat Ho2 Hz3]
  · isplitr; · iexact HG
    isplitl [HO]; · iexact HO
    isplitl [Hf1]; · iexact Hf1
    isplitl [Hsnd]; · iexact Hsnd
    isplitl [Hh5]; · iexact Hh5
    isplitl [Hc4]; · iexact Hc4
    isplitl [Hat]; · iexact Hat
    isplitl [Ho2]; · iexact Ho2
    iexact Hz3
  iintro ⟨HO, Ho0, Hz1, Hf3, Hsnd, Hrcv, Hd5, Hzc⟩
  iapply (finish_step (m := m) (K := K)) $$ [HO Hf2 Hf3]
  · isplitr; · iexact HG
    isplitl [HO]; · iexact HO
    isplitl [Hf2]; · iexact Hf2
    iexact Hf3
  iintro ⟨HO, Ho1, Ho2, Hacc, Hch, Hz2, Hz3⟩
  iapply Hk
  isplitl [HO]; · iexact HO
  isplitl [Hacc Hsnd Hrcv Hch Hb0 Hb1]
  · isplitl [Hacc]; · iexact Hacc
    isplitl [Hsnd]; · iexact Hsnd
    isplitl [Hrcv]; · iexact Hrcv
    isplitl [Hch]; · iexact Hch
    isplitl [Hb0]; · iexact Hb0
    iexact Hb1
  isplitl [Hza Hza' Hzb0 Hzb1 Hz0 Hz1 Hz2 Hz3]
  · isplitl [Hza Hza']
    · isplitl [Hza]; · iexact Hza
      iexact Hza'
    isplitl [Hzb0]; · iexact Hzb0
    isplitl [Hzb1]; · iexact Hzb1
    isplitl [Hz0]; · iexact Hz0
    isplitl [Hz1]; · iexact Hz1
    isplitl [Hz2]; · iexact Hz2
    iexact Hz3
  isplitl [Hzbar Hd0 Hd1 Hd2 Hd3 Hd4 Hd5 Hzc]
  · isplitl [Hzbar]; · iexact Hzbar
    isplitl [Hd0 Hd1 Hd2 Hd3 Hd4 Hd5]
    · isplitl [Hd0]; · iexact Hd0
      isplitl [Hd1]; · iexact Hd1
      isplitl [Hd2]; · iexact Hd2
      isplitl [Hd3]; · iexact Hd3
      isplitl [Hd4]; · iexact Hd4
      iexact Hd5
    iexact Hzc
  isplitl [Ha0 Ha1 Ha2 Ha3 Hr0 HR]
  · isplitl [Ha0 Ha1 Ha2 Ha3]
    · isplitl [Ha0]; · iexact Ha0
      isplitl [Ha1]; · iexact Ha1
      isplitl [Ha2]; · iexact Ha2
      iexact Ha3
    isplitl [Hr0]; · iexact Hr0
    iexact HR
  isplitl [Ho0]; · iexact Ho0
  isplitl [Ho1]; · iexact Ho1
  isplitl [Ho2]; · iexact Ho2
  iexact Ho3

end Cert.KernelIdeal.Ring

end
-- ==== Proof.Pieces.lean ====
/-
  The arrays and the two slots as their pieces.

  The body works on blocks of rows, or of rows and columns, of the arrays in the large memory, and on one of the two slots of a
  buffer.  Each family of pieces is disjoint and covers its buffer, so a device that holds the buffer holds the pieces, and back.
-/
module

public import proofs.«01_k».proof.Proof.Body
public import proofs.«01_k».proof.Proof.Gen.KernelIdeal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Families of pieces -/

/-- Contents of a view that read the same agree on its elements. -/
theorem agree_of_read {κ : Kind} {sp : Space} {s : Shape} {e : EltTy} {v : View sig κ sp s e} {f g : v.ty.Contents (Elt F)}
    (h : v.read (Elt F) f = v.read (Elt F) g) : ∀ i ∈ v.set, f i = g i := by
  intro i hi
  obtain ⟨x, -, rfl⟩ := Finset.mem_map.mp hi
  have h := congrFun h x
  rw [View.read_apply, View.read_apply] at h
  exact (cast_inj _).mp h

section Family

variable {ι : Type} [Fintype ι] [DecidableEq ι] {ℓ : Loc nD τ sig} {X : ι → Type} (rd : (i : ι) → Buf (Elt F) ℓ → X i) (I : ι → Finset (Idx ℓ))
variable {q : PosShare TreeShare}

/-- A held buffer is its pieces. -/
theorem cut_pieces (hd : ∀ i j, i ≠ j → Disjoint (I i) (I j)) (hc : ∀ x, ∃ i, x ∈ I i) (f : Buf (Elt F) ℓ) :
    (ℓ ↦{q} f : sProp (MR F)) ⊢ bigSep Finset.univ fun i => iprop(∃ g : Buf (Elt F) ℓ, ⌜rd i g = rd i f⌝ ∗ (ℓ ↦[I i]{q} g)) := by
  rw [show (Finset.univ : Finset (Idx ℓ)) = Finset.univ.biUnion I from
      (Finset.eq_univ_iff_forall.mpr fun x => by obtain ⟨i, hi⟩ := hc x; exact Finset.mem_biUnion.mpr ⟨i, Finset.mem_univ i, hi⟩).symm,
    pointsTo_biUnion Finset.univ I (fun i _ j _ h => hd i j h)]
  refine bigSep_mono fun i _ => ?_
  show (ℓ ↦[I i]{q} f : sProp (MR F)) ⊢ iprop(∃ g : Buf (Elt F) ℓ, ⌜rd i g = rd i f⌝ ∗ (ℓ ↦[I i]{q} g))
  iintro H; iexists f; isplitr; · ipureintro; rfl
  iexact H

/-- The pieces are the buffer, at contents that read what the pieces read. -/
theorem join_pieces (f₀ : Buf (Elt F) ℓ) (hd : ∀ i j, i ≠ j → Disjoint (I i) (I j)) (hc : ∀ x, ∃ i, x ∈ I i)
    (hrd : ∀ i (f g : Buf (Elt F) ℓ), (∀ x ∈ I i, f x = g x) → rd i f = rd i g) (Y : (i : ι) → X i) :
    (bigSep Finset.univ fun i => iprop(∃ g : Buf (Elt F) ℓ, ⌜rd i g = Y i⌝ ∗ (ℓ ↦[I i]{q} g)) : sProp (MR F))
      ⊢ iprop(∃ f : Buf (Elt F) ℓ, ⌜∀ i, rd i f = Y i⌝ ∗ (ℓ ↦{q} f)) := by
  iintro H
  ihave H := (BI.bigSep_exists_pi Finset.univ (fun i (g : Buf (Elt F) ℓ) => (iprop(⌜rd i g = Y i⌝ ∗ (ℓ ↦[I i]{q} g)) : sProp (MR F)))) $$ H
  icases H with ⟨%gs, H⟩
  ihave H := (BI.bigSep_pure_sep Finset.univ (fun i => rd i (gs i) = Y i) (fun i => (ℓ ↦[I i]{q} gs i : sProp (MR F)))) $$ H
  icases H with ⟨%hg, H⟩
  ihave H := (pointsTo_biUnion_join Finset.univ I gs f₀ (fun i _ j _ h => hd i j h)) $$ H
  icases H with ⟨%f, %hf, H⟩
  iexists f
  isplitr
  · ipureintro; intro i
    exact (hrd i f (gs i) (hf i (Finset.mem_univ i))).trans (hg i (Finset.mem_univ i))
  · rw [show (Finset.univ : Finset (Idx ℓ)) = Finset.univ.biUnion I from
      (Finset.eq_univ_iff_forall.mpr fun x => by obtain ⟨i, hi⟩ := hc x; exact Finset.mem_biUnion.mpr ⟨i, Finset.mem_univ i, hi⟩).symm]
    iexact H

end Family

/-! ## Which elements the pieces have -/

theorem mem_aM (q : Dev nD) (x : S4096x2048.Idx) : x ∈ (aM q).view.set ↔ (x 0).val / 1024 = q.val := by
  rw [show (aM q).view.set = _ from View.set_slice_whole _ _, Rect.mem_set_unit]
  show (∀ a : Fin 2, _) ↔ _
  rw [Fin.forall_fin_two]
  have h0 : (x 0).val < 4096 := (x 0).isLt
  have h1 : (x 1).val < 2048 := (x 1).isLt
  show (1024 * q.val ≤ (x 0).val ∧ (x 0).val < 1024 * q.val + 1024) ∧ (0 ≤ (x 1).val ∧ (x 1).val < 0 + 2048) ↔ _
  omega

theorem mem_bRow (kk : Fin 8) (x : S2048x4096.Idx) : x ∈ (bRow kk).view.set ↔ (x 0).val / 256 = kk.val := by
  rw [show (bRow kk).view.set = _ from View.set_slice_whole _ _, Rect.mem_set_unit]
  show (∀ a : Fin 2, _) ↔ _
  rw [Fin.forall_fin_two]
  have h0 : (x 0).val < 2048 := (x 0).isLt
  have h1 : (x 1).val < 4096 := (x 1).isLt
  show (256 * kk.val ≤ (x 0).val ∧ (x 0).val < 256 * kk.val + 256) ∧ (0 ≤ (x 1).val ∧ (x 1).val < 0 + 4096) ↔ _
  omega

/-- Which half of the columns is direction `d`'s. -/
def Dir.num : Dir → ℕ
  | .cw => 0
  | .ccw => 1

theorem mem_oM (d : Dir) (q : Dev nD) (x : S4096x4096.Idx) : x ∈ (oM d q).view.set ↔ (x 0).val / 1024 = q.val ∧ (x 1).val / 2048 = d.num := by
  rw [show (oM d q).view.set = _ from View.set_slice_whole _ _, Rect.mem_set_unit]
  show (∀ a : Fin 2, _) ↔ _
  rw [Fin.forall_fin_two]
  have h0 : (x 0).val < 4096 := (x 0).isLt
  have h1 : (x 1).val < 4096 := (x 1).isLt
  cases d
  · show (1024 * q.val ≤ (x 0).val ∧ (x 0).val < 1024 * q.val + 1024) ∧ (0 ≤ (x 1).val ∧ (x 1).val < 0 + 2048) ↔ _ ∧ _ = 0
    omega
  · show (1024 * q.val ≤ (x 0).val ∧ (x 0).val < 1024 * q.val + 1024) ∧ (2048 ≤ (x 1).val ∧ (x 1).val < 2048 + 2048) ↔ _ ∧ _ = 1
    omega

theorem mem_bSlot (p : Fin 2) (x : S2x256x4096.Idx) : x ∈ (bSlot p).view.set ↔ (x 0).val = p.val := by
  rw [show (bSlot p).view.set = _ from (View.set_reshape _ _).trans (View.set_slice_whole _ _), Rect.mem_set_unit]
  show (∀ a : Fin 3, _) ↔ _
  rw [Fin.forall_fin_succ, Fin.forall_fin_two]
  have h0 : (x 0).val < 2 := (x 0).isLt
  have h1 : (x 1).val < 256 := (x 1).isLt
  have h2 : (x 2).val < 4096 := (x 2).isLt
  show (p.val ≤ (x 0).val ∧ (x 0).val < p.val + 1) ∧ (0 ≤ (x 1).val ∧ (x 1).val < 0 + 256) ∧ (0 ≤ (x 2).val ∧ (x 2).val < 0 + 4096) ↔ _
  omega

/-! ## The inputs -/

variable (m : (ℓ : Loc nD τ sig) → Buf (Elt F) ℓ)

theorem aM_disjoint (q q' : Dev nD) (h : q ≠ q') : Disjoint (aM q).view.set (aM q').view.set :=
  Finset.disjoint_left.mpr fun x hx hx' => h (Fin.ext (((mem_aM q x).mp hx).symm.trans ((mem_aM q' x).mp hx')))
theorem aM_cover (x : S4096x2048.Idx) : ∃ q : Dev nD, x ∈ (aM q).view.set :=
  ⟨⟨(x 0).val / 1024, by have h0 : (x 0).val < 4096 := (x 0).isLt; show _ < 4; omega⟩, (mem_aM _ x).mpr rfl⟩
theorem bRow_disjoint (k k' : Fin 8) (h : k ≠ k') : Disjoint (bRow k).view.set (bRow k').view.set :=
  Finset.disjoint_left.mpr fun x hx hx' => h (Fin.ext (((mem_bRow k x).mp hx).symm.trans ((mem_bRow k' x).mp hx')))
theorem bRow_cover (x : S2048x4096.Idx) : ∃ k : Fin 8, x ∈ (bRow k).view.set :=
  ⟨⟨(x 0).val / 256, by have h0 : (x 0).val < 2048 := (x 0).isLt; omega⟩, (mem_bRow _ x).mpr rfl⟩
theorem bSlot_disjoint (k k' : Fin 2) (h : k ≠ k') : Disjoint (bSlot k).view.set (bSlot k').view.set :=
  Finset.disjoint_left.mpr fun x hx hx' => h (Fin.ext (((mem_bSlot k x).mp hx).symm.trans ((mem_bSlot k' x).mp hx')))
theorem bSlot_cover (x : S2x256x4096.Idx) : ∃ k : Fin 2, x ∈ (bSlot k).view.set := ⟨x 0, (mem_bSlot _ x).mpr rfl⟩
theorem oM_disjoint (k k' : Dir × Dev nD) (h : k ≠ k') : Disjoint (oM k.1 k.2).view.set (oM k'.1 k'.2).view.set :=
  Finset.disjoint_left.mpr fun x hx hx' => h (by
    obtain ⟨h1, h2⟩ := (mem_oM k.1 k.2 x).mp hx
    obtain ⟨h3, h4⟩ := (mem_oM k'.1 k'.2 x).mp hx'
    refine Prod.ext ?_ (Fin.ext (h1.symm.trans h3))
    have e : k.1.num = k'.1.num := h2.symm.trans h4
    revert e; cases k.1 <;> cases k'.1 <;> simp [Dir.num])
theorem oM_cover (x : S4096x4096.Idx) : ∃ k : Dir × Dev nD, x ∈ (oM k.1 k.2).view.set := by
  have h0 : (x 0).val < 4096 := (x 0).isLt
  have h1 : (x 1).val < 4096 := (x 1).isLt
  refine ⟨(if (x 1).val / 2048 = 0 then .cw else .ccw, ⟨(x 0).val / 1024, by show _ < 4; omega⟩), (mem_oM _ _ x).mpr ⟨rfl, ?_⟩⟩
  dsimp only
  split
  · assumption
  · show _ = 1; omega

variable {m} in
/-- The array `A` at a share is its four chunks. -/
theorem cut_A (c : Dev nD) (q : PosShare TreeShare) :
    (((c : Thread nD τ).loc main_arg0) ↦{q} m ((c : Thread nD τ).loc main_arg0) : sProp (MR F))
      ⊢ bigSep Finset.univ fun i : Dev nD => Own c (aM i) q (aV m c i) :=
  cut_pieces (ℓ := (c : Thread nD τ).loc main_arg0) (fun i f => (aM i).view.read (Elt F) f) (fun i => (aM i).view.set) aM_disjoint aM_cover _

theorem join_A (c : Dev nD) (q : PosShare TreeShare) :
    (bigSep Finset.univ fun i : Dev nD => Own c (aM i) q (aV m c i))
      ⊢ (((c : Thread nD τ).loc main_arg0) ↦{q} m ((c : Thread nD τ).loc main_arg0) : sProp (MR F)) := by
  refine (join_pieces (ℓ := (c : Thread nD τ).loc main_arg0) (fun i f => (aM i).view.read (Elt F) f) (fun i => (aM i).view.set) (m ((c : Thread nD τ).loc main_arg0)) aM_disjoint aM_cover
    (fun i f g h => View.read_congr h) (fun i => aV m c i)).trans ?_
  iintro ⟨%f, %hf, H⟩
  obtain rfl : f = m ((c : Thread nD τ).loc main_arg0) := funext fun x => by
    obtain ⟨i, hi⟩ := aM_cover x
    exact agree_of_read (hf i) x hi
  iexact H

variable {m} in
/-- The array `B` is its eight blocks of rows. -/
theorem cut_B (c : Dev nD) (q : PosShare TreeShare) :
    (((c : Thread nD τ).loc main_arg1) ↦{q} m ((c : Thread nD τ).loc main_arg1) : sProp (MR F))
      ⊢ bigSep Finset.univ fun i : Fin 8 => Own c (bRow i) q (bV m c i) :=
  cut_pieces (ℓ := (c : Thread nD τ).loc main_arg1) (fun i f => (bRow i).view.read (Elt F) f) (fun i => (bRow i).view.set) bRow_disjoint bRow_cover _

theorem join_B (c : Dev nD) (q : PosShare TreeShare) :
    (bigSep Finset.univ fun i : Fin 8 => Own c (bRow i) q (bV m c i))
      ⊢ (((c : Thread nD τ).loc main_arg1) ↦{q} m ((c : Thread nD τ).loc main_arg1) : sProp (MR F)) := by
  refine (join_pieces (ℓ := (c : Thread nD τ).loc main_arg1) (fun i f => (bRow i).view.read (Elt F) f) (fun i => (bRow i).view.set) (m ((c : Thread nD τ).loc main_arg1)) bRow_disjoint bRow_cover
    (fun i f g h => View.read_congr h) (fun i => bV m c i)).trans ?_
  iintro ⟨%f, %hf, H⟩
  obtain rfl : f = m ((c : Thread nD τ).loc main_arg1) := funext fun x => by
    obtain ⟨i, hi⟩ := bRow_cover x
    exact agree_of_read (hf i) x hi
  iexact H

theorem chunk_list (d : Dir) (c : Dev nD) : (Finset.univ : Finset (Dev nD)) = [chunk d 0 c, chunk d 1 c, chunk d 2 c, chunk d 3 c].toFinset := by
  revert c; cases d <;> decide
theorem chunk_nodup (d : Dir) (c : Dev nD) : [chunk d 0 c, chunk d 1 c, chunk d 2 c, chunk d 3 c].Nodup := by
  revert c; cases d <;> decide

/-- A family over the chunks, in the order of the stages. -/
theorem by_stage (d : Dir) (c : Dev nD) (Φ : Dev nD → sProp (MR F)) :
    bigSep Finset.univ Φ = iprop(Φ (chunk d 0 c) ∗ Φ (chunk d 1 c) ∗ Φ (chunk d 2 c) ∗ Φ (chunk d 3 c)) :=
  bigSep_univ_eq_bigSepL _ (chunk_list d c) (chunk_nodup d c) Φ
theorem by_eight (Φ : Fin 8 → sProp (MR F)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem by_two (Φ : Fin 2 → sProp (MR F)) : bigSep Finset.univ Φ = iprop(Φ 0 ∗ Φ 1) :=
  bigSep_univ_eq_bigSepL [0, 1] (by decide) (by decide) Φ
theorem by_dir (Φ : Dir → sProp (MR F)) : bigSep Finset.univ Φ = iprop(Φ .cw ∗ Φ .ccw) :=
  bigSep_univ_eq_bigSepL [Dir.cw, Dir.ccw] (by decide) (by decide) Φ

variable {m} in
theorem cut_ins (c : Dev nD) :
    iprop((((c : Thread nD τ).loc main_arg0) ↦{fullShare} m ((c : Thread nD τ).loc main_arg0))
        ∗ (((c : Thread nD τ).loc main_arg1) ↦{fullShare} m ((c : Thread nD τ).loc main_arg1)))
      ⊢ (Ins m c : sProp (MR F)) := by
  unfold Ins BRest
  iintro ⟨HA, HB⟩
  ihave HA := (pointsTo_share (PosShare.mem_left_op_right fullShare)).1 $$ HA
  icases HA with ⟨HA, HA'⟩
  ihave HA := ((cut_A (m := m) c _).trans (Entails.of_eq (by_stage .cw c _))) $$ HA
  ihave HA' := ((cut_A (m := m) c _).trans (Entails.of_eq (by_stage .ccw c _))) $$ HA'
  ihave HB := ((cut_B (m := m) c _).trans (Entails.of_eq (by_eight _))) $$ HB
  icases HA with ⟨Ha0, Ha1, Ha2, Ha3⟩
  icases HA' with ⟨Ha0', Ha1', Ha2', Ha3'⟩
  icases HB with ⟨Hb0, HB⟩
  isplitl [Ha0 Ha1 Ha2 Ha3 Ha0' Ha1' Ha2' Ha3']
  · isplitl [Ha0 Ha0']
    · isplitl [Ha0]; · iexact Ha0
      iexact Ha0'
    isplitl [Ha1 Ha1']
    · isplitl [Ha1]; · iexact Ha1
      iexact Ha1'
    isplitl [Ha2 Ha2']
    · isplitl [Ha2]; · iexact Ha2
      iexact Ha2'
    isplitl [Ha3]; · iexact Ha3
    iexact Ha3'
  isplitl [Hb0]; · iexact Hb0
  iexact HB

theorem join_ins (c : Dev nD) :
    (Ins m c : sProp (MR F))
      ⊢ iprop((((c : Thread nD τ).loc main_arg0) ↦{fullShare} m ((c : Thread nD τ).loc main_arg0))
        ∗ (((c : Thread nD τ).loc main_arg1) ↦{fullShare} m ((c : Thread nD τ).loc main_arg1))) := by
  unfold Ins BRest
  iintro ⟨⟨⟨Ha0, Ha0'⟩, ⟨Ha1, Ha1'⟩, ⟨Ha2, Ha2'⟩, ⟨Ha3, Ha3'⟩⟩, HB⟩
  isplitr [HB]
  · iapply (pointsTo_share (PosShare.mem_left_op_right fullShare)).2
    isplitl [Ha0 Ha1 Ha2 Ha3]
    · iapply ((Entails.of_eq (by_stage .cw c (fun q => Own c (aM q) fullShare.left (aV m c q))).symm).trans (join_A m c _))
      isplitl [Ha0]; · iexact Ha0
      isplitl [Ha1]; · iexact Ha1
      isplitl [Ha2]; · iexact Ha2
      iexact Ha3
    · iapply ((Entails.of_eq (by_stage .ccw c (fun q => Own c (aM q) fullShare.right (aV m c q))).symm).trans (join_A m c _))
      isplitl [Ha0']; · iexact Ha0'
      isplitl [Ha1']; · iexact Ha1'
      isplitl [Ha2']; · iexact Ha2'
      iexact Ha3'
  · iapply ((Entails.of_eq (by_eight (fun k => Own c (bRow k) fullShare (bV m c k))).symm).trans (join_B m c _))
    iexact HB

/-! ## The result -/

theorem cut_outs (c : Dev nD) :
    (((c : Thread nD τ).loc main_v1) ↦{fullShare} m ((c : Thread nD τ).loc main_v1)) ⊢ (OutsE c : sProp (MR F)) := by
  refine (cut_pieces (ℓ := (c : Thread nD τ).loc main_v1) (fun i : Dir × Dev nD => fun f => (oM i.1 i.2).view.read (Elt F) f) (fun i => (oM i.1 i.2).view.set)
    oM_disjoint oM_cover _).trans ?_
  refine (show _ ⊢ bigSep Finset.univ (fun i : Dir × Dev nD => Some c (oM i.1 i.2)) from bigSep_mono fun i _ => some_intro).trans ?_
  rw [bigSep_univ_prod, by_dir, by_stage .cw c, by_stage .ccw c]
  unfold OutsE OEmpty
  iintro ⟨⟨Ha0, Ha1, Ha2, Ha3⟩, ⟨Ha0', Ha1', Ha2', Ha3'⟩⟩
  isplitl [Ha0 Ha0']
  · isplitl [Ha0]; · iexact Ha0
    iexact Ha0'
  isplitl [Ha1 Ha1']
  · isplitl [Ha1]; · iexact Ha1
    iexact Ha1'
  isplitl [Ha2 Ha2']
  · isplitl [Ha2]; · iexact Ha2
    iexact Ha2'
  isplitl [Ha3]; · iexact Ha3
  iexact Ha3'

/-- The stage at which a chunk is a device's. -/
def stageOf (d : Dir) (c q : Dev nD) : Fin 4 :=
  match d with
  | .cw => ⟨(c.val + 4 - q.val) % 4, Nat.mod_lt _ (by decide)⟩
  | .ccw => ⟨(q.val + 4 - c.val) % 4, Nat.mod_lt _ (by decide)⟩
theorem stageOf_chunk (d : Dir) (s : Fin 4) (c : Dev nD) : stageOf d c (chunk d s.val c) = s := by
  revert s c; cases d <;> decide

/-- The result array reads, in each block, what the device left there. -/
def Reads (c : Dev nD) (f : Buf (Elt F) ((c : Thread nD τ).loc main_v1)) : Prop :=
  ∀ (d : Dir) (s : Fin 4), (oM d (chunk d s.val c)).view.read (Elt F) f = outV m d s c

theorem join_outs (c : Dev nD) :
    (OutsF m c : sProp (MR F)) ⊢ iprop(∃ f : Buf (Elt F) ((c : Thread nD τ).loc main_v1), ⌜Reads m c f⌝ ∗ (((c : Thread nD τ).loc main_v1) ↦{fullShare} f)) := by
  let P : Dir → Dev nD → sProp (MR F) := fun d q => Own c (oM d q) fullShare (outV m d (stageOf d c q) c)
  have e (d : Dir) (s : Fin 4) : (Own c (oM d (chunk d s.val c)) fullShare (outV m d s c) : sProp (MR F)) = P d (chunk d s.val c) := by
    show _ = Own c (oM d _) fullShare (outV m d (stageOf d c (chunk d s.val c)) c)
    rw [stageOf_chunk]
  have h : (OutsF m c : sProp (MR F)) ⊢ bigSep Finset.univ (fun i : Dir × Dev nD => P i.1 i.2) := by
    rw [bigSep_univ_prod, by_dir, by_stage .cw c, by_stage .ccw c]
    unfold OutsF OFull Both
    beta_reduce
    rw [e .cw 0, e .cw 1, e .cw 2, e .cw 3, e .ccw 0, e .ccw 1, e .ccw 2, e .ccw 3]
    iintro ⟨⟨Ha0, Ha0'⟩, ⟨Ha1, Ha1'⟩, ⟨Ha2, Ha2'⟩, ⟨Ha3, Ha3'⟩⟩
    isplitl [Ha0 Ha1 Ha2 Ha3]
    · isplitl [Ha0]; · iexact Ha0
      isplitl [Ha1]; · iexact Ha1
      isplitl [Ha2]; · iexact Ha2
      iexact Ha3
    · isplitl [Ha0']; · iexact Ha0'
      isplitl [Ha1']; · iexact Ha1'
      isplitl [Ha2']; · iexact Ha2'
      iexact Ha3'
  refine h.trans ((join_pieces (ℓ := (c : Thread nD τ).loc main_v1) (fun i : Dir × Dev nD => fun f => (oM i.1 i.2).view.read (Elt F) f) (fun i => (oM i.1 i.2).view.set) (m ((c : Thread nD τ).loc main_v1))
    oM_disjoint oM_cover (fun i f g h => View.read_congr h) (fun i => outV m i.1 (stageOf i.1 c i.2) c)).trans ?_)
  iintro ⟨%f, %hf, H⟩
  iexists f
  isplitr
  · ipureintro; intro d s
    exact (hf (d, chunk d s.val c)).trans (by dsimp only; rw [stageOf_chunk])
  · iexact H

/-! ## The buffers -/

/-- A whole buffer at some contents. -/
theorem some_of_whole (c : Dev nD) (b : Ref sig .tc) :
    iprop(∃ f : Buf (Elt F) ((c : Thread nD τ).loc b), ((c : Thread nD τ).loc b) ↦{fullShare} f) ⊢ (Some c (Memref.whole b) : sProp (MR F)) := by
  unfold Some Own owns
  simp only [Memref.view_whole, View.set_whole]
  iintro ⟨%f, H⟩
  iexists _; iexists f
  isplitr; · ipureintro; rfl
  iexact H

theorem whole_of_some (c : Dev nD) (b : Ref sig .tc) :
    (Some c (Memref.whole b) : sProp (MR F)) ⊢ iprop(∃ f : Buf (Elt F) ((c : Thread nD τ).loc b), ((c : Thread nD τ).loc b) ↦{fullShare} f) := by
  unfold Some Own owns
  simp only [Memref.view_whole, View.set_whole]
  iintro ⟨%X, %f, %hf, H⟩
  iexists f
  iexact H

theorem cut_slots (c : Dev nD) :
    iprop(∃ f : Buf (Elt F) ((c : Thread nD τ).loc cc0_scratch8), ((c : Thread nD τ).loc cc0_scratch8) ↦{fullShare} f)
      ⊢ (iprop(Some c (bSlot 0) ∗ Some c (bSlot 1)) : sProp (MR F)) := by
  iintro ⟨%f, H⟩
  iapply ((cut_pieces (ℓ := (c : Thread nD τ).loc cc0_scratch8) (fun i f => (bSlot i).view.read (Elt F) f) (fun i => (bSlot i).view.set) bSlot_disjoint bSlot_cover f).trans
    ((show _ ⊢ bigSep Finset.univ (fun i : Fin 2 => Some c (bSlot i)) from bigSep_mono fun i _ => some_intro).trans (Entails.of_eq (by_two _)))) $$ H

theorem join_slots (c : Dev nD) :
    (iprop(Some c (bSlot 0) ∗ Some c (bSlot 1)) : sProp (MR F))
      ⊢ iprop(∃ f : Buf (Elt F) ((c : Thread nD τ).loc cc0_scratch8), ((c : Thread nD τ).loc cc0_scratch8) ↦{fullShare} f) := by
  unfold Some
  iintro ⟨⟨%X, H⟩, ⟨%Y, H'⟩⟩
  ihave Hf := (show (Own c (bSlot 0) fullShare X : sProp (MR F)) ⊢ iprop(⌜∃ f : Buf (Elt F) ((c : Thread nD τ).loc cc0_scratch8), True⌝ ∗ Own c (bSlot 0) fullShare X) from by
    unfold Own owns
    iintro ⟨%f, %hf, H⟩
    isplitr; · ipureintro; exact ⟨f, trivial⟩
    iexists f; isplitr; · ipureintro; exact hf
    iexact H) $$ H
  icases Hf with ⟨%hf, H⟩
  obtain ⟨f₀, -⟩ := hf
  ihave H := ((Entails.of_eq (by_two (fun i : Fin 2 => Own c (bSlot i) fullShare (if i = 0 then X else Y))).symm).trans
    (join_pieces (ℓ := (c : Thread nD τ).loc cc0_scratch8) (fun i f => (bSlot i).view.read (Elt F) f) (fun i => (bSlot i).view.set) f₀ bSlot_disjoint bSlot_cover
      (fun i f g h => View.read_congr h) (fun i => if i = 0 then X else Y))) $$ [H H']
  · isplitl [H]; · iexact H
    iexact H'
  icases H with ⟨%f, -, H⟩
  iexists f; iexact H

theorem cut_bufs (c : Dev nD) :
    (Pipeline.scopedRest (Ix := ℕ) (Name := ℕ) (U := UU) (Lvl := ℕ) (Val := Elt F) cfg0.spec c : sProp (MR F)) ⊢ Bufs c := by
  rw [scopedRest0_eq]
  unfold Bufs
  iintro ⟨H0, H1, H2, H3, H4, H5, H6, H7, H8⟩
  isplitl [H0 H1]
  · isplitl [H0]; · iapply (some_of_whole c cc0_scratch0) $$ H0
    iapply (some_of_whole c cc0_scratch1) $$ H1
  isplitl [H2 H4]
  · isplitl [H2]; · iapply (some_of_whole c cc0_scratch2) $$ H2
    iapply (some_of_whole c cc0_scratch4) $$ H4
  isplitl [H3 H5]
  · isplitl [H3]; · iapply (some_of_whole c cc0_scratch3) $$ H3
    iapply (some_of_whole c cc0_scratch5) $$ H5
  isplitl [H6 H7]
  · isplitl [H6]; · iapply (some_of_whole c cc0_scratch6) $$ H6
    iapply (some_of_whole c cc0_scratch7) $$ H7
  iapply (cut_slots c) $$ H8

theorem join_bufs (c : Dev nD) :
    Bufs c ⊢ (Pipeline.scopedRest (Ix := ℕ) (Name := ℕ) (U := UU) (Lvl := ℕ) (Val := Elt F) cfg0.spec c : sProp (MR F)) := by
  rw [scopedRest0_eq]
  unfold Bufs
  iintro ⟨⟨H0, H1⟩, ⟨H2, H4⟩, ⟨H3, H5⟩, ⟨H6, H7⟩, H8⟩
  isplitl [H0]; · iapply (whole_of_some c cc0_scratch0) $$ H0
  isplitl [H1]; · iapply (whole_of_some c cc0_scratch1) $$ H1
  isplitl [H2]; · iapply (whole_of_some c cc0_scratch2) $$ H2
  isplitl [H3]; · iapply (whole_of_some c cc0_scratch3) $$ H3
  isplitl [H4]; · iapply (whole_of_some c cc0_scratch4) $$ H4
  isplitl [H5]; · iapply (whole_of_some c cc0_scratch5) $$ H5
  isplitl [H6]; · iapply (whole_of_some c cc0_scratch6) $$ H6
  isplitl [H7]; · iapply (whole_of_some c cc0_scratch7) $$ H7
  iapply (join_slots c) $$ H8

end Cert.KernelIdeal.Ring

end
-- ==== Proof.Launch.lean ====
/-
  The launch: what each device starts with, and how the protocol is set up between the devices.

  At launch every cell of the protocol is allocated with its schedule, every duty token is minted with its cell and handed to the
  device that pays that duty, and what the devices owe turns into the credits they wait with.
-/
module

public import proofs.«01_k».proof.Proof.Pieces

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ)

/-! ## The semaphores -/

/-- The kinds of semaphores of the local copies: of `A`, of `B`, of the result. -/
abbrev LK : Type := Dir ⊕ Fin 2 ⊕ (Dir × Fin 4)
def lsem : LK → SemLoc sig
  | .inl d => .dma (aSem d)
  | .inr (.inl p) => .dma (bSem p)
  | .inr (.inr (d, j)) => .dma (stSem d j)

/-- The kinds of cells but the barrier. -/
abbrev CK' : Type := (Dir × Fin 6) ⊕ (Dir × Fin 6) ⊕ Dir

/-- The semaphores that are the kernel's own. -/
def osem : CK' ⊕ LK → SemLoc sig
  | .inl k => csem (.inr k)
  | .inr k => lsem k

theorem ownSemFacts : Pipeline.OwnSemFacts cfg0.spec osem := by decide

/-- The semaphores of the protocol at zero. -/
abbrev CellSems (c : Dev nD) : sProp (MR F) := bigSep Finset.univ fun k : CK => Zero (F := F) c (csem k)
abbrev OwnSems (c : Dev nD) : sProp (MR F) := Pipeline.ownSems0 (Ix := ℕ) (Name := ℕ) (U := UU) (Lvl := ℕ) (Val := Elt F) (τ := τ) osem c

theorem unscopedSems_eq (c : Dev nD) : (unscopedSems0 c : sProp (MR F)) = Zero c (.reg barSem) := by
  unfold unscopedSems0; rw [bigSep_eq_bigSepL_of_eq [SemLoc.reg barSem] (by decide) (by decide)]; rfl

theorem by_sum {A B : Type} [Fintype A] [Fintype B] (Φ : A ⊕ B → sProp (MR F)) :
    bigSep Finset.univ Φ = iprop(bigSep Finset.univ (fun a => Φ (.inl a)) ∗ bigSep Finset.univ (fun b => Φ (.inr b))) := BI.bigSep_univ_sum Φ

theorem locals_eq (c : Dev nD) : (bigSep Finset.univ fun k : LK => Zero (F := F) c (lsem k))
    = iprop((Zero c (.dma (aSem .cw)) ∗ Zero c (.dma (aSem .ccw))) ∗ (Zero c (.dma (bSem 0)) ∗ Zero c (.dma (bSem 1)))
      ∗ ((Zero c (.dma (stSem .cw 0)) ∗ Zero c (.dma (stSem .cw 1)) ∗ Zero c (.dma (stSem .cw 2)) ∗ Zero c (.dma (stSem .cw 3)))
        ∗ (Zero c (.dma (stSem .ccw 0)) ∗ Zero c (.dma (stSem .ccw 1)) ∗ Zero c (.dma (stSem .ccw 2)) ∗ Zero c (.dma (stSem .ccw 3))))) := by
  rw [by_sum, by_sum, by_dir, by_two, bigSep_univ_prod, by_dir,
    bigSep_univ_eq_bigSepL ([0, 1, 2, 3] : List (Fin 4)) (by decide) (by decide), bigSep_univ_eq_bigSepL ([0, 1, 2, 3] : List (Fin 4)) (by decide) (by decide)]
  rfl

theorem locals_sems (c : Dev nD) : (bigSep Finset.univ fun k : LK => Zero (F := F) c (lsem k)) ⊢ Sems c := by
  rw [locals_eq]
  unfold Sems
  iintro ⟨Ha, ⟨Hb, Hb'⟩, ⟨H0, H1, H2, H3⟩, ⟨G0, G1, G2, G3⟩⟩
  isplitl [Ha]; · iexact Ha
  isplitl [Hb]; · iexact Hb
  isplitl [Hb']; · iexact Hb'
  isplitl [H0 G0]
  · isplitl [H0]; · iexact H0
    iexact G0
  isplitl [H1 G1]
  · isplitl [H1]; · iexact H1
    iexact G1
  isplitl [H2 G2]
  · isplitl [H2]; · iexact H2
    iexact G2
  isplitl [H3]; · iexact H3
  iexact G3

theorem sems_locals (c : Dev nD) : Sems c ⊢ (bigSep Finset.univ fun k : LK => Zero (F := F) c (lsem k)) := by
  rw [locals_eq]
  unfold Sems
  iintro ⟨Ha, Hb, Hb', ⟨H0, G0⟩, ⟨H1, G1⟩, ⟨H2, G2⟩, ⟨H3, G3⟩⟩
  isplitl [Ha]; · iexact Ha
  isplitl [Hb Hb']
  · isplitl [Hb]; · iexact Hb
    iexact Hb'
  isplitl [H0 H1 H2 H3]
  · isplitl [H0]; · iexact H0
    isplitl [H1]; · iexact H1
    isplitl [H2]; · iexact H2
    iexact H3
  isplitl [G0]; · iexact G0
  isplitl [G1]; · iexact G1
  isplitl [G2]; · iexact G2
  iexact G3

theorem cells_eq (c : Dev nD) : (CellSems c : sProp (MR F))
    = iprop(Zero c (.reg barSem) ∗ bigSep Finset.univ fun k : CK' => Zero c (csem (.inr k))) := by
  unfold CellSems
  rw [by_sum, bigSep_univ_eq_bigSepL [()] (by decide) (by decide)]
  rfl

theorem sems_split (c : Dev nD) : iprop(OwnSems c ∗ unscopedSems0 c) ⊢ (iprop(CellSems c ∗ Sems c) : sProp (MR F)) := by
  rw [cells_eq]
  unfold OwnSems Pipeline.ownSems0
  rw [unscopedSems_eq, by_sum]
  iintro ⟨⟨H, Hl⟩, Hb⟩
  isplitl [H Hb]
  · isplitl [Hb]; · iexact Hb
    iexact H
  ihave Hl := (show (bigSep Finset.univ fun k : LK => (semVal ((c : Thread nD τ), osem (.inr k)) 0 : sProp (MR F))) ⊢ Sems c from locals_sems c) $$ Hl
  iexact Hl

/-- A family over the six hops, -/
theorem by_six (Φ : Fin 6 → sProp (MR F)) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
/-- and over the five rounds of a credit. -/
theorem by_five (Φ : Fin 5 → sProp (MR F)) : bigSep Finset.univ Φ = iprop(Φ 0 ∗ Φ 1 ∗ Φ 2 ∗ Φ 3 ∗ Φ 4) :=
  bigSep_univ_eq_bigSepL [0, 1, 2, 3, 4] (by decide) (by decide) Φ

/-- A family over both directions. -/
theorem by_both (Φ : Dir → sProp (MR F)) : bigSep Finset.univ Φ = Both Φ := by_dir Φ
/-- A family over hops and directions, hop by hop. -/
theorem by_hop (Φ : Dir × Fin 6 → sProp (MR F)) :
    bigSep Finset.univ Φ = iprop(Both (fun d => Φ (d, 0)) ∗ Both (fun d => Φ (d, 1)) ∗ Both (fun d => Φ (d, 2))
      ∗ Both (fun d => Φ (d, 3)) ∗ Both (fun d => Φ (d, 4)) ∗ Both (fun d => Φ (d, 5))) := by
  rw [bigSep_univ_prod, bigSep_univ_comm, by_six]
  simp only [by_both]
theorem by_round (Φ : Dir × Fin 5 → sProp (MR F)) :
    bigSep Finset.univ Φ = iprop(Both (fun d => Φ (d, 0)) ∗ Both (fun d => Φ (d, 1)) ∗ Both (fun d => Φ (d, 2))
      ∗ Both (fun d => Φ (d, 3)) ∗ Both (fun d => Φ (d, 4))) := by
  rw [bigSep_univ_prod, bigSep_univ_comm, by_five]
  simp only [by_both]

theorem closed_cells (c : Dev nD) : (iprop(Closed c ∗ Sems c) : sProp (MR F)) ⊢ iprop(unscopedSems0 c ∗ OwnSems c) := by
  have h : (iprop((Both (fun d => HopDone c d 0) ∗ Both (fun d => HopDone c d 1) ∗ Both (fun d => HopDone c d 2)
      ∗ Both (fun d => HopDone c d 3) ∗ Both (fun d => HopDone c d 4) ∗ Both (fun d => HopDone c d 5))) : sProp (MR F))
      = iprop((bigSep Finset.univ fun x : Dir × Fin 6 => Zero c (.dma (ssSem x.1 x.2))) ∗ (bigSep Finset.univ fun x : Dir × Fin 6 => Zero c (.dma (rsSem x.1 x.2)))) := by
    rw [← bigSep_sep', by_hop]
    rfl
  unfold OwnSems Pipeline.ownSems0 Closed
  rw [unscopedSems_eq, by_sum, by_sum, by_sum, h, by_both]
  iintro ⟨⟨Hb, ⟨H1, H2⟩, H3⟩, Hl⟩
  isplitl [Hb]; · iexact Hb
  isplitl [H1 H2 H3]
  · isplitl [H1]; · iexact H1
    isplitl [H2]; · iexact H2
    iexact H3
  iapply (sems_locals c) $$ Hl

/-! ## The duty tokens -/

/-- The duties of a device's cells. -/
abbrev TK : Type := Dir ⊕ (Dir × Fin 6) ⊕ (Dir × Fin 6) ⊕ (Dir × Fin 5)
def duty : TK → CK × ℕ × Dir
  | .inl d => (kBar, 0, d)
  | .inr (.inl (d, k)) => (kSs d k, 0, .cw)
  | .inr (.inr (.inl (d, k))) => (kRs d k, 0, .cw)
  | .inr (.inr (.inr (d, r))) => (kCr d, r.val, .cw)
theorem duty_injective : Function.Injective duty := by
  rintro (d | ⟨d, k⟩ | ⟨d, k⟩ | ⟨d, r⟩) (d' | ⟨d', k'⟩ | ⟨d', k'⟩ | ⟨d', r'⟩) h <;>
    first
      | (cases h; rfl)
      | cases h
      | (have h1 : kCr d = kCr d' := congrArg (fun x => x.1) h
         have h2 : r.val = r'.val := congrArg (fun x => x.2.1) h
         cases h1
         rw [Fin.ext h2])

def tokOf (x : Dev nD × TK) : GSem nD τ sig × ℕ × Dir := (kcell (x.1, (duty x.2).1), (duty x.2).2)
theorem tokOf_injective : Function.Injective tokOf := by
  rintro ⟨c, t⟩ ⟨c', t'⟩ h
  have h1 := kcell_injective (congrArg (fun x => x.1) h : kcell (c, (duty t).1) = kcell (c', (duty t').1))
  have h2 : (duty t).2 = (duty t').2 := congrArg (fun x => x.2) h
  have h3 : c = c' := congrArg Prod.fst h1
  have h4 : (duty t).1 = (duty t').1 := congrArg Prod.snd h1
  rw [h3, duty_injective (Prod.ext h4 h2)]

def ringCells : Finset (GSem nD τ sig) := Finset.univ.map ⟨kcell, kcell_injective⟩
def ringToks : Finset (GSem nD τ sig × ℕ × Dir) := Finset.univ.map ⟨tokOf, tokOf_injective⟩

def u₀ : UU :=
  (initOf (Pipeline.cells cfgs cellOf_inj) (Pipeline.launchToks cfgs cellOf_inj), (initOf ringCells ringToks, 1))

/-- The token of one duty of one device's cell. -/
abbrev TokT (c : Dev nD) (t : TK) : sProp (MR F) := Tok (c, (duty t).1) (duty t).2.1 (duty t).2.2

/-- The steps around the ring. -/
def step (d : Dir) : Dev nD ≃ Dev nD := ⟨nb d, nb d.opp, nb_opp_nb d, nb_nb_opp d⟩
/-- Whose cell it is that a device pays a duty to. -/
def payee : TK → (Dev nD ≃ Dev nD)
  | .inl d => step d.opp
  | .inr (.inl _) => Equiv.refl _
  | .inr (.inr (.inl (d, _))) => step d
  | .inr (.inr (.inr (d, _))) => step d.opp

theorem toks_around : (bigSep Finset.univ fun c : Dev nD => bigSep Finset.univ fun t => (TokT c t : sProp (MR F)))
    ⊢ bigSep Finset.univ fun c : Dev nD => bigSep Finset.univ fun t => TokT (payee t c) t := by
  rw [bigSep_univ_comm, bigSep_univ_comm (fun c t => (TokT (payee t c) t : sProp (MR F)))]
  exact bigSep_mono fun t _ => Entails.of_eq (bigSep_univ_equiv (payee t) fun c => (TokT c t : sProp (MR F)))

/-! ## The launch's global step -/

abbrev CellStates (c : Dev nD) : sProp (MR F) := bigSep Finset.univ fun k : CK => roundState ER (Rd m) (kcell (c, k)) 0
abbrev Ats (c : Dev nD) : sProp (MR F) := bigSep Finset.univ fun k : CK => At (F := F) (c, k) 0
abbrev Rchs (c : Dev nD) : sProp (MR F) := bigSep Finset.univ fun k : CK => Rch (F := F) (c, k) 0
abbrev OwnToks (c : Dev nD) : sProp (MR F) := bigSep Finset.univ fun t : TK => TokT (F := F) c t
abbrev PayToks (c : Dev nD) : sProp (MR F) := bigSep Finset.univ fun t : TK => TokT (F := F) (payee t c) t

/-- What the launch deals a device. -/
def G (c : Dev nD) : sProp (MR F) := iprop(CellStates m c ∗ Ats c ∗ Rchs c ∗ OwnToks c)

theorem fund_ring : BI.own (ER (initOf ringCells ringToks)) ⊢ (|==> bigSep Finset.univ (G m) : sProp (MR F)) := by
  have hX (Φ : GSem nD τ sig → sProp (MR F)) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp (MR F))) = bigSep Finset.univ fun c : Dev nD => OwnToks c := by
    unfold ringToks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem core_alloc (c : Dev nD) :
    iprop(OwnSems c ∗ unscopedSems0 c ∗ G m c)
      ⊢ |={Set.univ}=> iprop((bigSep Finset.univ fun k => iprop(∃ κ : ℕ, cellInv ER (Rd m) κ (kcell (c, k)))) ∗ Ats c ∗ Rchs c ∗ OwnToks c ∗ Sems c) := by
  unfold G
  iintro ⟨Hos, Hus, Hst, Hat, Hr, Htok⟩
  ihave Hv := (sems_split c) $$ [Hos Hus]
  · isplitl [Hos]; · iexact Hos
    iexact Hus
  icases Hv with ⟨Hv, Hs⟩
  imod (show iprop(CellSems c ∗ CellStates m c)
      ⊢ (|={Set.univ}=> bigSep Finset.univ fun k => iprop(∃ κ : ℕ, cellInv ER (Rd m) κ (kcell (c, k))) : sProp (MR F)) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hr]; · iexact Hr
  isplitl [Htok]; · iexact Htok
  iexact Hs

/-- What every device knows of the protocol. -/
def Known (K : Dev nD × CK → ℕ) : sProp (MR F) := iprop(bigSep Finset.univ (Inv m K) ∗ bigSep Finset.univ (fun x : Dev nD × CK => Rch (F := F) x 0))
instance Known_persistent (K : Dev nD × CK → ℕ) : BI.Persistent (Known m K) := by unfold Known; infer_instance

/-- What it has of its own. -/
def Part (c : Dev nD) : sProp (MR F) := iprop(Ats c ∗ PayToks c ∗ Sems c)
def G' (c : Dev nD) : sProp (MR F) := iprop(∃ K, Known m K ∗ Part c)

theorem regroup :
    (bigSep Finset.univ fun c : Dev nD => iprop((bigSep Finset.univ fun k => iprop(∃ κ : ℕ, cellInv ER (Rd m) κ (kcell (c, k)))) ∗ Ats c ∗ Rchs c ∗ OwnToks c ∗ Sems c) : sProp (MR F))
      ⊢ bigSep Finset.univ (G' m) := by
  simp only [bigSep_sep']
  rw [← bigSep_univ_prod (fun x : Dev nD × CK => iprop(∃ κ : ℕ, cellInv ER (Rd m) κ (kcell x))), ← bigSep_univ_prod (fun x : Dev nD × CK => (Rch x 0 : sProp (MR F)))]
  iintro ⟨HI, Hat, #HR, Htok, Hs⟩
  ihave HK := (BI.bigSep_exists_pi Finset.univ (fun (x : Dev nD × CK) (κ : ℕ) => (cellInv ER (Rd m) κ (kcell x) : sProp (MR F)))) $$ HI
  icases HK with ⟨%K, #HI⟩
  ihave Htok := toks_around $$ Htok
  iapply ((sep_mono_left (BI.bigSep_of_persistent Finset.univ (Known m K))).trans
    (show iprop((bigSep Finset.univ fun _ : Dev nD => Known m K) ∗ bigSep Finset.univ fun c : Dev nD => Part (F := F) c) ⊢ bigSep Finset.univ (G' m) from by
      rw [← bigSep_sep']
      refine bigSep_mono fun c _ => ?_
      show iprop(Known m K ∗ Part c) ⊢ G' m c
      unfold G'
      iintro H; iexists K; iexact H))
  isplitr
  · unfold Known
    isplitl; · iexact HI
    iexact HR
  · unfold Part
    simp only [bigSep_sep']
    isplitl [Hat]; · iexact Hat
    isplitl [Htok]; · iexact Htok
    iexact Hs

theorem glob : (bigSep Finset.univ fun c => iprop(OwnSems c ∗ unscopedSems0 c ∗ G m c) : sProp (MR F)) ⊢ |={Set.univ}=> bigSep Finset.univ (G' m) :=
  ((bigSep_mono fun c _ => core_alloc m c).trans (bigSep_fupd _ _)).trans (BI.fupd_mono (regroup m))

/-! ## The launch credits -/

/-- The credits for a list of dues. -/
def credits (c : Dev nD) : List Due → sProp (MR F)
  | [] => iprop(emp)
  | x :: l => iprop(credits c l ∗ Crd (c, x.2.1) x.2.2 (amtC x.2.1))

theorem launch_credits (c : Dev nD) (l : List Due) : (Pipeline.launchCred (fun d => dues d l) c : sProp (MR F)) ⊢ credits c l := by
  induction l with
  | nil => exact Entails.of_eq (Pipeline.launchCred_zero c)
  | cons x l ih =>
    simp only [dues_cons]
    rw [Pipeline.launchCred_add]
    unfold credits
    exact BI.sep_mono ih (Pipeline.launchCred_tallyAt (csem x.2.1) (nb x.1) (nb x.1.opp) (nb_nb_opp x.1) (nb_opp_nb x.1) x.2.2 (amtC x.2.1) c)

end Cert.KernelIdeal.Ring

end
-- ==== Proof.Run.lean ====
/-
  The run of the whole machine.

  From any memory with all counters at zero, every execution ends; at the end the arguments are unchanged, every block of every
  device's result reads what the ring hands to that device (`outV`), and every counter is at zero.
-/
module

public import proofs.«01_k».proof.Proof.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ)

/-! ## What one device starts with -/

theorem credit_parts (c : Dev nD) : (credits c duesAll : sProp (MR F))
    ⊢ iprop(Crd (c, kBar) 0 2 ∗ (bigSep Finset.univ fun x : Dir × Fin 6 => Crd (c, kRs x.1 x.2) 0 NN)
      ∗ (bigSep Finset.univ fun x : Dir × Fin 5 => Crd (c, kCr x.1) x.2.val 1)) := by
  rw [by_hop, by_round]
  simp only [duesAll, dues0, dues1, dues2, dues3, dues4, dues5, dueHop, dueCr, List.cons_append, List.nil_append, credits]
  iintro ⟨⟨⟨⟨⟨⟨⟨⟨⟨⟨⟨⟨⟨⟨⟨⟨⟨⟨⟨⟨⟨⟨⟨⟨-, G5⟩, H5⟩, D4⟩, C4⟩, G4⟩, H4⟩, D3⟩, C3⟩, G3⟩, H3⟩, D2⟩, C2⟩, G2⟩, H2⟩, D1⟩, C1⟩, G1⟩, H1⟩, D0⟩, C0⟩, G0⟩, H0⟩, B⟩, A⟩
  isplitl [A B]
  · iapply ((cred_add (tallyAt (kcell (c, kBar)) 0 1) (tallyAt (kcell (c, kBar)) 0 1)).2.trans (Entails.of_eq (by rw [tallyAt_add]))) $$ [A B]
    isplitl [A]; · iexact A
    iexact B
  isplitl [H0 G0 H1 G1 H2 G2 H3 G3 H4 G4 H5 G5]
  · isplitl [H0 G0]
    · isplitl [H0]; · iexact H0
      iexact G0
    isplitl [H1 G1]
    · isplitl [H1]; · iexact H1
      iexact G1
    isplitl [H2 G2]
    · isplitl [H2]; · iexact H2
      iexact G2
    isplitl [H3 G3]
    · isplitl [H3]; · iexact H3
      iexact G3
    isplitl [H4 G4]
    · isplitl [H4]; · iexact H4
      iexact G4
    isplitl [H5]; · iexact H5
    iexact G5
  isplitl [C0 D0]
  · isplitl [C0]; · iexact C0
    iexact D0
  isplitl [C1 D1]
  · isplitl [C1]; · iexact C1
    iexact D1
  isplitl [C2 D2]
  · isplitl [C2]; · iexact C2
    iexact D2
  isplitl [C3 D3]
  · isplitl [C3]; · iexact C3
    iexact D3
  isplitl [C4]; · iexact C4
  iexact D4

theorem ats_eq (c : Dev nD) : (Ats c : sProp (MR F))
    = iprop(At (c, kBar) 0 ∗ (bigSep Finset.univ fun x : Dir × Fin 6 => At (c, kSs x.1 x.2) 0)
      ∗ (bigSep Finset.univ fun x : Dir × Fin 6 => At (c, kRs x.1 x.2) 0) ∗ Both (fun d => At (c, kCr d) 0)) := by
  unfold Ats
  rw [by_sum, bigSep_univ_eq_bigSepL [()] (by decide) (by decide), by_sum, by_sum, by_both]
  rfl

theorem payToks_eq (c : Dev nD) : (PayToks c : sProp (MR F))
    = iprop((Tok (nb .ccw c, kBar) 0 .cw ∗ Tok (nb .cw c, kBar) 0 .ccw)
      ∗ (bigSep Finset.univ fun x : Dir × Fin 6 => Tok (c, kSs x.1 x.2) 0 .cw)
      ∗ (bigSep Finset.univ fun x : Dir × Fin 6 => Tok (nb x.1 c, kRs x.1 x.2) 0 .cw)
      ∗ (bigSep Finset.univ fun x : Dir × Fin 5 => Tok (prv x.1 c, kCr x.1) x.2.val .cw)) := by
  unfold PayToks
  rw [by_sum, by_sum, by_sum, by_both]
  rfl

theorem ghost_intro (c : Dev nD) : iprop(credits c duesAll ∗ Ats c ∗ PayToks c) ⊢ (Ghost c : sProp (MR F)) := by
  have hh : (iprop(Both (fun d => Hop c d 0) ∗ Both (fun d => Hop c d 1) ∗ Both (fun d => Hop c d 2)
      ∗ Both (fun d => Hop c d 3) ∗ Both (fun d => Hop c d 4) ∗ Both (fun d => Hop c d 5)) : sProp (MR F))
      = iprop((bigSep Finset.univ fun x : Dir × Fin 6 => Tok (c, kSs x.1 x.2) 0 .cw)
        ∗ (bigSep Finset.univ fun x : Dir × Fin 6 => Tok (nb x.1 c, kRs x.1 x.2) 0 .cw)
        ∗ (bigSep Finset.univ fun x : Dir × Fin 6 => At (c, kSs x.1 x.2) 0)
        ∗ (bigSep Finset.univ fun x : Dir × Fin 6 => At (c, kRs x.1 x.2) 0)
        ∗ (bigSep Finset.univ fun x : Dir × Fin 6 => Crd (c, kRs x.1 x.2) 0 NN)) := by
    rw [← bigSep_sep', ← bigSep_sep', ← bigSep_sep', ← bigSep_sep']
    exact (by_hop (fun x : Dir × Fin 6 => (Hop c x.1 x.2 : sProp (MR F)))).symm
  refine (sep_mono_left (credit_parts c)).trans ?_
  rw [ats_eq, payToks_eq]
  unfold Ghost
  rw [hh]
  iintro ⟨⟨Hcb, Hcr, Hcc⟩, ⟨Hab, Has, Har, Hac⟩, ⟨Ht, Ht'⟩, Hts, Htr, Htc⟩
  ihave Hcc := (Entails.of_eq (by_round (fun x : Dir × Fin 5 => (Crd (c, kCr x.1) x.2.val 1 : sProp (MR F))))) $$ Hcc
  ihave Htc := (Entails.of_eq (by_round (fun x : Dir × Fin 5 => (Tok (prv x.1 c, kCr x.1) x.2.val .cw : sProp (MR F))))) $$ Htc
  isplitl [Ht Ht' Hcb Hab]
  · isplitl [Ht]; · iexact Ht
    isplitl [Ht']; · iexact Ht'
    isplitl [Hcb]; · iexact Hcb
    iexact Hab
  isplitl [Hts Htr Has Har Hcr]
  · isplitl [Hts]; · iexact Hts
    isplitl [Htr]; · iexact Htr
    isplitl [Has]; · iexact Has
    isplitl [Har]; · iexact Har
    iexact Hcr
  isplitl [Htc]; · iexact Htc
  isplitl [Hcc]; · iexact Hcc
  iexact Hac

/-- What a device starts with, besides its scratch buffers, -/
def start (c : Dev nD) : sProp (MR F) := iprop(∃ K, Γ m K ∗ Ghost c ∗ Sems c ∗ Ins m c ∗ OutsE c)
/-- and what it ends with. -/
def done (c : Dev nD) : sProp (MR F) := iprop(Bufs c ∗ Sems c ∗ Closed c ∗ Ins m c ∗ OutsF m c)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => dues d duesAll) c ∗ prngReg c (ρ c) ∗ G' m c)
      ⊢ |={Set.univ}=> (iprop(start m c ∗ emp) : sProp (MR F)) := by
  rw [Pipeline.unscopedRestP_none, unscopedRest0_eq]
  unfold G' Known Part start Γ
  iintro ⟨⟨Ha, Hb, Ho⟩, #Hl, Hcr, -, ⟨%K, ⟨#HI, #HR⟩, Hat, Htok, Hs⟩⟩
  ihave Hcr := (launch_credits c duesAll) $$ Hcr
  ihave Hi := (cut_ins (m := m) c) $$ [Ha Hb]
  · isplitl [Ha]; · iexact Ha
    iexact Hb
  ihave Ho := (cut_outs m c) $$ Ho
  ihave Hg := (ghost_intro c) $$ [Hcr Hat Htok]
  · isplitl [Hcr]; · iexact Hcr
    isplitl [Hat]; · iexact Hat
    iexact Htok
  imodintro
  isplitl
  · iexists K
    isplitr
    · isplitr; · iexact HI
      isplitr; · iexact HR
      iexact Hl
    isplitl [Hg]; · iexact Hg
    isplitl [Hs]; · iexact Hs
    isplitl [Hi]; · iexact Hi
    iexact Ho
  · iempintro

/-! ## The body obligation -/

def dats (_ : Fin 1) (c : Dev nD) : Pipeline.Dat τ (Elt F) ℕ ℕ UU ℕ cfg0 c where
  A w := m ((cfg0.win w).arr.view.loc (c : Thread nD τ))
  after w _ := (show Fin 0 from w).elim0
  Φ t := match t with
    | ⟨0, _⟩ => iprop(start m c ∗ Bufs c)
    | ⟨_ + 1, _⟩ => done m c
  q _ := fullShare
  owed t := match t with
    | ⟨0, _⟩ => dues c duesAll
    | ⟨_ + 1, _⟩ => 0

theorem dues_nil (c : Dev nD) : dues c [] = 0 := rfl

theorem ret_step (c : Dev nD) {Q : PUnit → sProp (MR F)} : Q ⟨⟩ ⊢ WP c (pure ⟨⟩) Q := by
  show Q ⟨⟩ ⊢ wp frame (wpE (defs₀ (F := F)) 𝒱₀ (c : Thread nD τ) none) Set.univ (.ret ⟨⟩) Q
  rw [wp_ret]; exact fupd_intro

set_option maxRecDepth 8000 in
theorem body_obligation (c : Dev nD) : Pipeline.BodyObligation (dats m 0 c) (defs₀ (F := F)) 𝒱₀ 0 Set.univ := fun t => by
  rw [fin_N0 t]
  rw [bigSep_univ_eq_bigSepL ([] : List (Fin cfg0.W)) (by decide) (by decide), bigSep_univ_eq_bigSepL ([] : List (Fin cfg0.W)) (by decide) (by decide)]
  have h1 : defs₀ (F := F) .tc cfg0.body (cfg0.bodyArgs t0_0 (cfg0.slots t0_0)) = bodyAt0 (F := F) t0_0 := rfl
  have h2 : (dats m 0 c).Φ t0_0.castSucc = iprop(start m c ∗ Bufs c) := rfl
  have h3 : (dats m 0 c).Φ t0_0.succ = done m c := rfl
  rw [h1, h2, h3, body_eq]
  unfold start done
  iintro ⟨⟨⟨%K, #HG, Hg, Hs, Hi, Ho⟩, Hb⟩, HO, -⟩
  unfold Pipeline.Dat.owesAt Pipeline.owesWithin
  icases HO with ⟨%W, -, HO⟩
  simp only [Prog.lift, Prog.bind_op, Prog.bind_ret]
  rw [wp_deviceId, ← bind_pure (prog c)]
  iapply (prog_step (m := m) (K := K) (k := pure)) $$ [HO Hg Hb Hs Hi Ho]
  · isplitr; · iexact HG
    isplitl [HO]
    · unfold Owes; iexists W; iexact HO
    isplitl [Hg]; · iexact Hg
    isplitl [Hb]; · iexact Hb
    isplitl [Hs]; · iexact Hs
    isplitl [Hi]; · iexact Hi
    iexact Ho
  iintro ⟨HO, Hb, Hs, Hc, Hi, Ho⟩
  unfold Owes
  icases HO with ⟨%W', HO⟩
  iapply (ret_step c)
  isplitl [Hb Hs Hc Hi Ho]
  · isplitl [Hb]; · iexact Hb
    isplitl [Hs]; · iexact Hs
    isplitl [Hc]; · iexact Hc
    isplitl [Hi]; · iexact Hi
    iexact Ho
  isplitl [HO]
  · iexists W'
    isplitr
    · ipureintro; exact fun _ _ => Or.inl trivial
    iexact HO
  iempintro

/-! ## The run -/

/-- What a device hands back. -/
def handed (c : Dev nD) : sProp (MR F) :=
  iprop(unscopedSems0 c ∗ (((c : Thread nD τ).loc main_arg0) ↦{fullShare} m ((c : Thread nD τ).loc main_arg0))
    ∗ (((c : Thread nD τ).loc main_arg1) ↦{fullShare} m ((c : Thread nD τ).loc main_arg1))
    ∗ ∃ f : Buf (Elt F) ((c : Thread nD τ).loc main_v1), ⌜Reads m c f⌝ ∗ (((c : Thread nD τ).loc main_v1) ↦{fullShare} f))

theorem done_exit (c : Dev nD) :
    (done m c : sProp (MR F)) ⊢ iprop(handed m c ∗ OwnSems c ∗ Pipeline.scopedRest cfg0.spec c) := by
  unfold done handed
  iintro ⟨Hb, Hs, Hc, Hi, Ho⟩
  ihave Hz := (closed_cells c) $$ [Hc Hs]
  · isplitl [Hc]; · iexact Hc
    iexact Hs
  icases Hz with ⟨Hu, Hz⟩
  ihave Hi := (join_ins m c) $$ Hi
  icases Hi with ⟨H0, H1⟩
  ihave Ho := (join_outs m c) $$ Ho
  ihave Hb := (join_bufs c) $$ Hb
  isplitl [Hu H0 H1 Ho]
  · isplitl [Hu]; · iexact Hu
    isplitl [H0]; · iexact H0
    isplitl [H1]; · iexact H1
    iexact Ho
  isplitl [Hz]; · iexact Hz
  iexact Hb

/-- What is read off a device's final memory. -/
def Final (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ Reads m c (s.mem ((c : Thread nD τ).loc main_v1))

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp (MR F)) := by
  refine (sep_mono_left (Entails.of_eq (bigSep_univ_eq_bigSepL [()] (by decide) (by decide) fun _ : Unit => (ℓ ↦{fullShare} f : sProp (MR F))).symm)).trans ?_
  refine (pointsTo_read_all Finset.univ (fun _ : Unit => ℓ) (fun _ => f) s').trans ?_
  exact sep_mono_left (BI.pure_mono fun h => h () (Finset.mem_univ _))

theorem handed_read (c : Dev nD) (s' : Phys nD τ sig (Elt F)) :
    iprop(handed m c ∗ emp ∗ SI s') ⊢ |={Set.univ}=> (iprop(⌜Final m c s'.mem⌝ ∗ SI s') : sProp (MR F)) := by
  unfold handed
  iintro ⟨⟨Hu, H0, H1, ⟨%f, %hf, H2⟩⟩, -, HSI⟩
  ihave H := (read_one _ _ s') $$ [H0 HSI]
  · isplitl [H0]; · iexact H0
    iexact HSI
  icases H with ⟨%h0, HSI⟩
  ihave H := (read_one _ _ s') $$ [H1 HSI]
  · isplitl [H1]; · iexact H1
    iexact HSI
  icases H with ⟨%h1, HSI⟩
  ihave H := (read_one _ _ s') $$ [H2 HSI]
  · isplitl [H2]; · iexact H2
    iexact HSI
  icases H with ⟨%h2, HSI⟩
  ihave %h := (tcUnscoped_read c s') $$ [Hu HSI]
  · isplitl [Hu]; · iexact Hu
    iexact HSI
  imodintro
  isplitr
  · ipureintro; exact ⟨h, h0, h1, h2 ▸ hf⟩
  iexact HSI

theorem u₀_parts : (ownU u₀ : sProp (MR F))
    ⊢ iprop(BI.own (EP (initOf (Pipeline.cells cfgs cellOf_inj) (Pipeline.launchToks cfgs cellOf_inj))) ∗ BI.own (ER (initOf ringCells ringToks))) :=
  (ownU_pair _ _).trans (Entails.of_eq rfl)

set_option maxRecDepth 8000 in
/-- The run, over any float values. -/
theorem run_main (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ Reads m c (r.2.mem ((c : Thread nD τ).loc main_v1))) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := fun c => (body_obligation m c).loose) (hne := fun w => (show Fin 0 from w).elim0) (harr := arr_whole0) (hstage := stage_whole0)
    (hshare := fun c w => (show Fin 0 from w).elim0)
    (hdistinct := winFacts0.arr_inj)
    (O₀ := fun d => dues d duesAll) (howed₀ := fun _ => rfl) (howedN := fun _ => rfl)
    (L := L) (lv := lv) (hL := L_of_ne)
    (hwaits := fun c => Pipeline.cellsWaits_intro cfgs (dats m) 0 0 c fun w s t => (show Fin 0 from w).elim0)
    (G := G m) (G' := G' m) (u₀ := u₀)
    (hu₀ := by
      iintro Hu
      ihave H := (u₀_parts (F := F)) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := handed m) (Z := fun _ => iprop(emp))
    (hX := start_intro m ρ)
    (hin := fun c => by
      show _ ⊢ iprop(start m c ∗ Bufs c)
      iintro ⟨Hs, -, Hr⟩
      isplitl [Hs]; · iexact Hs
      iapply (cut_bufs c) $$ Hr)
    (hout := fun c => done_exit m c)
    (QY := Final m)
    (hY := handed_read m)
    (hQ := fun _ h hs => ⟨fun c => (h c).2.2.2, sem_eq_zero hs fun c => (h c).2.2.1⟩)

end Cert.KernelIdeal.Ring

end
-- ==== Proof.Value.lean ====
/-
  The values, where floats are extended reals: every block of every device's result is the sum over the four devices of their own
  parts, whatever way it went around the ring, and that sum is the block of the product of the whole matrices.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.ValueIdx

@[expose] public section

noncomputable section

namespace Cert.KernelIdeal.Ring

open Idealize.ShloMosaic Idealize.ShloMosaic.TcCoe Idealize.ShloMosaic.ValueIdx
open Cert.KernelIdeal Cert.KernelIdeal.Gen

/-! ## The operations, at an index -/

theorem payT_eq (x : Vec Ideal S1024x2048 .f32) : payT (F := Ideal) x = x := shapeCast_self _ _
theorem payE_eq (y : Vec Ideal S1024x2048 .bf16) : payE (F := Ideal) y = y := shapeCast_self _ _
theorem payR_apply (x : Vec Ideal S1024x2048 .f32) (y : Vec Ideal S1024x2048 .bf16) (i : S1024x2048.Idx) :
    (payR (F := Ideal) x y i : EReal) = (x i : EReal) + (y i : EReal) := by
  unfold payR; rw [shapeCast_self]; rfl

/-- A product of a column block of `A` with a row block of `B`. -/
theorem mmPay_apply (a : Vec Ideal S1024x256 .f32) (b : Vec Ideal S256x2048 .f32) (r : Fin 1024) (l : Fin 2048) :
    (mmPay (F := Ideal) a b (ix2 r l) : EReal) = ∑ k : Fin 256, (a (ix2 r k) : EReal) * (b (ix2 k l) : EReal) := by
  refine (Ideal.matmul_plain_apply (M := 1024) (K := 256) (N := 2048) none a b (constant S1024x2048 .f32 0x00000000#32) r l).trans ?_
  show Ideal.ofBits .f32 0x00000000#32 + _ = _
  rw [Ideal.ofBits_zero_f32, zero_add]

theorem pay0_apply (a : Vec Ideal S1024x256 .f32) (b : Vec Ideal S256x2048 .f32) (r : Fin 1024) (l : Fin 2048) :
    (pay0 (F := Ideal) a b (ix2 r l) : EReal) = ∑ k : Fin 256, (a (ix2 r k) : EReal) * (b (ix2 k l) : EReal) := by
  unfold pay0; rw [shapeCast_self]; exact mmPay_apply a b r l

theorem payS_apply (x : Vec Ideal S1024x2048 .f32) (a : Vec Ideal S1024x256 .f32) (b : Vec Ideal S256x2048 .f32) (r : Fin 1024) (l : Fin 2048) :
    (payS (F := Ideal) x a b (ix2 r l) : EReal) = (x (ix2 r l) : EReal) + ∑ k : Fin 256, (a (ix2 r k) : EReal) * (b (ix2 k l) : EReal) := by
  unfold payS; rw [shapeCast_self]
  exact congrArg ((x (ix2 r l) : EReal) + ·) (mmPay_apply a b r l)

/-- The first column of a direction's half. -/
def colOff : Dir → ℕ
  | .cw => 0
  | .ccw => 2048
theorem colOff_lt (d : Dir) (l : Fin 2048) : colOff d + l.val < 4096 := by have := l.isLt; cases d <;> (show _ + l.val < 4096) <;> (simp only [colOff]; omega)

/-- The eight accumulation steps add up. -/
theorem prodV_apply (A : Vec Ideal S1024x2048 .f32) (B : Fin 8 → Vec Ideal S256x4096 .f32) (d : Dir) (r : Fin 1024) (l : Fin 2048) :
    (prodV (F := Ideal) A B d (ix2 r l) : EReal)
      = ∑ kk : Fin 8, ∑ k : Fin 256, (aPart A kk (ix2 r k) : EReal) * (bPart (B kk) d (ix2 k l) : EReal) := by
  unfold prodV firstV stepV
  simp only [payS_apply, pay0_apply]
  rw [Fin.sum_univ_eight]

/-! ## The ring adds every device's part -/

variable (m : (ℓ : Loc nD τ sig) → Buf (Elt Ideal) ℓ)

/-- All the devices' parts of chunk `q`, added. -/
def total (d : Dir) (q : Dev nD) : S1024x2048.Idx → EReal := fun i => ∑ c : Dev nD, (part m d q c i : EReal)

theorem chunk_prv (d : Dir) (s : ℕ) (c : Dev nD) : chunk d s (prv d c) = chunk d (s + 1) c := rfl
theorem chunk_four (d : Dir) (s : ℕ) (c : Dev nD) : chunk d (s + 4) c = chunk d s c := by
  have h (c : Dev nD) : prv d (prv d (prv d (prv d c))) = c := by revert c; cases d <;> decide
  show chunk d s (prv d (prv d (prv d (prv d c)))) = _
  rw [h]
theorem chunk_bijective (d : Dir) (c : Dev nD) : Function.Bijective (fun s : Fin 4 => chunk d s.val c) := by
  rw [← Finite.injective_iff_bijective]; revert c; cases d <;> decide

theorem accV_apply (d : Dir) (s : ℕ) (c : Dev nD) (i : S1024x2048.Idx) :
    (accV m d (s + 1) c i : EReal) = (part m d (chunk d (s + 1) c) c i : EReal) + (accV m d s (prv d c) i : EReal) := by
  refine (payR_apply (part m d (chunk d (s + 1) c) c) (payT (accV m d s (prv d c))) i).trans ?_
  rw [payT_eq]

/-- After three hops the accumulator has every device's part. -/
theorem accV_three (d : Dir) (c : Dev nD) : accV m d 3 c = total m d (chunk d 3 c) := by
  funext i
  rw [accV_apply, accV_apply, accV_apply]
  show (part m d (chunk d 3 c) c i : EReal) + ((part m d (chunk d 3 c) (chunk d 1 c) i : EReal)
    + ((part m d (chunk d 3 c) (chunk d 2 c) i : EReal) + (part m d (chunk d 3 c) (chunk d 3 c) i : EReal))) = _
  unfold total
  rw [← (chunk_bijective d c).sum_comp (fun c' => (part m d (chunk d 3 c) c' i : EReal)), Fin.sum_univ_four, add_assoc, add_assoc]
  rfl

theorem sentV_three (d : Dir) (c : Dev nD) : sentV m d 3 c = total m d (chunk d 3 c) := by
  show payT (accV m d 3 c) = _
  rw [payT_eq, accV_three]
theorem sentV_more (d : Dir) (k : ℕ) : ∀ c : Dev nD, sentV m d (k + 3) c = total m d (chunk d (k + 3) c) := by
  induction k with
  | zero => exact sentV_three m d
  | succ k ih => exact fun c => ih (prv d c)

/-- What is left in each block is the sum of all the devices' parts. -/
theorem outV_eq (d : Dir) (s : Fin 4) (c : Dev nD) : outV m d s c = total m d (chunk d s.val c) := by
  have h (k : ℕ) : landV m d (k + 3) c = total m d (chunk d k c) := (sentV_more m d k (prv d c)).trans (by rw [chunk_prv, chunk_four])
  match s with
  | ⟨0, _⟩ => exact (payE_eq _).trans (h 0)
  | ⟨1, _⟩ => exact (payE_eq _).trans (h 1)
  | ⟨2, _⟩ => exact (payE_eq _).trans (h 2)
  | ⟨3, _⟩ => exact accV_three m d c

/-! ## The sum is the product of the whole matrices -/

/-- A sum over the whole contraction, cut by device, block and place in the block. -/
theorem sum_cut (f : Fin 8192 → EReal) :
    ∑ c : Fin 4, ∑ kk : Fin 8, ∑ k : Fin 256, f ⟨2048 * c.val + (256 * kk.val + k.val), by have := c.isLt; have := kk.isLt; have := k.isLt; omega⟩ = ∑ n, f n := by
  rw [← (finProdFinEquiv (m := 4) (n := 2048)).sum_comp f, Fintype.sum_prod_type]
  refine Finset.sum_congr rfl fun c _ => ?_
  rw [← (finProdFinEquiv (m := 8) (n := 256)).sum_comp (fun n : Fin 2048 => f (finProdFinEquiv (c, n))), Fintype.sum_prod_type]
  refine Finset.sum_congr rfl fun kk _ => Finset.sum_congr rfl fun k _ => congrArg f (Fin.ext ?_)
  show 2048 * c.val + (256 * kk.val + k.val) = (k.val + 256 * kk.val) + 2048 * c.val
  omega

/-- Two indices of a matrix with the same coordinates are one. -/
theorem ext_ix {n0 n1 : ℕ} {x y : (⟨2, ![n0, n1]⟩ : Shape).Idx} (h0 : (x 0).val = (y 0).val) (h1 : (x 1).val = (y 1).val) : x = y := by
  funext a; apply Fin.ext
  match a with
  | ⟨0, _⟩ => exact h0
  | ⟨1, _⟩ => exact h1

variable (A : (⟨2, ![4096, 8192]⟩ : Shape).Idx → EReal) (B : (⟨2, ![8192, 4096]⟩ : Shape).Idx → EReal)

/-- Every device's two arguments are its blocks of the whole matrices. -/
def Cut : Prop := ∀ c : Dev nD,
  m ((c : Thread nD τ).loc main_arg0) = Layout.block ⟨2, ![4096, 2048]⟩ ⟨2, ![4096, 8192]⟩ 1 4 c A
    ∧ m ((c : Thread nD τ).loc main_arg1) = Layout.block ⟨2, ![2048, 4096]⟩ ⟨2, ![8192, 4096]⟩ 0 4 c B

/-- The place in the whole contraction of place `k` of block `kk` on device `c`. -/
abbrev at3 (c : Dev nD) (kk : Fin 8) (k : Fin 256) : Fin 8192 :=
  ⟨2048 * c.val + (256 * kk.val + k.val), by have : c.val < 4 := c.isLt; have := kk.isLt; have := k.isLt; omega⟩
/-- The row of the whole result of row `r` of chunk `q`, -/
abbrev rowAt (q : Dev nD) (r : Fin 1024) : Fin 4096 := ⟨1024 * q.val + r.val, by have : q.val < 4 := q.isLt; have := r.isLt; omega⟩
/-- and the column of column `l` of a direction's half. -/
abbrev colAt (d : Dir) (l : Fin 2048) : Fin 4096 := ⟨colOff d + l.val, colOff_lt d l⟩

variable {m A B}

theorem aPart_apply (h : Cut m A B) (c q : Dev nD) (kk : Fin 8) (r : Fin 1024) (k : Fin 256) :
    (aPart (aV m c q) kk (ix2 r k) : EReal) = A (ix2 (rowAt q r) (at3 c kk k)) := by
  show (m ((c : Thread nD τ).loc main_arg0)) ((Rect.unit (s := S4096x2048) (rowOff q) S1024x2048.size (rowOff_inb q)).emb ((akR kk).emb (ix2 r k))) = _
  rw [(h c).1]
  refine congrArg A (ext_ix ?_ ?_)
  · show 1024 * q.val + 1 * (0 + 1 * r.val) = 1024 * q.val + r.val
    omega
  · show c.val * 2048 + (0 + 1 * (256 * kk.val + 1 * k.val)) = 2048 * c.val + (256 * kk.val + k.val)
    omega

theorem bPart_apply (h : Cut m A B) (c : Dev nD) (kk : Fin 8) (d : Dir) (k : Fin 256) (l : Fin 2048) :
    (bPart (bV m c kk) d (ix2 k l) : EReal) = B (ix2 (at3 c kk k) (colAt d l)) := by
  show (m ((c : Thread nD τ).loc main_arg1)) ((Rect.unit (s := S2048x4096) ![256 * kk.val, 0] S256x4096.size (inb_row kk)).emb ((halfR d).emb (ix2 k l))) = _
  rw [(h c).2]
  refine congrArg B (ext_ix ?_ ?_)
  · show c.val * 2048 + (256 * kk.val + 1 * (0 + 1 * k.val)) = 2048 * c.val + (256 * kk.val + k.val)
    omega
  · cases d
    · show 0 + 1 * (0 + 1 * l.val) = 0 + l.val
      omega
    · show 0 + 1 * (2048 + 1 * l.val) = 2048 + l.val
      omega

/-- The devices' parts of a block add up to the whole contraction. -/
theorem total_apply (h : Cut m A B) (d : Dir) (q : Dev nD) (r : Fin 1024) (l : Fin 2048) :
    total m d q (ix2 r l) = ∑ n : Fin 8192, A (ix2 (rowAt q r) n) * B (ix2 n (colAt d l)) := by
  rw [← sum_cut (fun n => A (ix2 (rowAt q r) n) * B (ix2 n (colAt d l)))]
  refine Finset.sum_congr rfl fun c _ => ?_
  refine (prodV_apply (aV m c q) (bV m c) d r l).trans ?_
  refine Finset.sum_congr rfl fun kk _ => Finset.sum_congr rfl fun k _ => ?_
  rw [aPart_apply h, bPart_apply h]

/-- A device's result, block by block what it left there, is the product of the whole matrices. -/
theorem reads_eq (h : Cut m A B) (c : Dev nD) (f g : (⟨2, ![4096, 4096]⟩ : Shape).Idx → EReal)
    (hg : ∀ i j, g (ix2 i j) = ∑ n : Fin 8192, A (ix2 i n) * B (ix2 n j)) (hf : Reads (F := Ideal) m c f) : f = g := by
  have key (d : Dir) (s : Fin 4) : (oM d (chunk d s.val c)).view.read (Elt Ideal) f = (oM d (chunk d s.val c)).view.read (Elt Ideal) g := by
    have e (r : Fin 1024) (l : Fin 2048) : total m d (chunk d s.val c) (ix2 r l) = (oM d (chunk d s.val c)).view.read (Elt Ideal) g (ix2 r l) := by
      rw [total_apply h, ← hg]
      refine congrArg g (ext_ix ?_ ?_)
      · show 1024 * (chunk d s.val c).val + r.val = 1024 * (chunk d s.val c).val + 1 * r.val
        omega
      · cases d
        · show 0 + l.val = 0 + 1 * l.val
          omega
        · show 2048 + l.val = 2048 + 1 * l.val
          omega
    refine (hf d s).trans ((outV_eq m d s c).trans ?_)
    funext i
    exact (congrArg _ (eq_ix2 i)).trans ((e (i 0) (i 1)).trans (congrArg _ (eq_ix2 i)).symm)
  funext x
  obtain ⟨⟨d, q⟩, hx⟩ := oM_cover x
  obtain ⟨s, rfl⟩ := (chunk_bijective d c).surjective q
  exact agree_of_read (key d s) x hx

/-- The reference's product, at an index. -/
theorem reference_apply (i j : Fin 4096) :
    Host.dotGeneral (F := Ideal) (φ₁ := .f32) (φ₂ := .f32) Cert.ReferenceIdeal.dot_S4096x8192_S8192x4096_S4096x4096_1_0_0_1_n_n none
      A B (ix2 i j)
      = ∑ n : Fin 8192, A (ix2 i n) * B (ix2 n j) :=
  StackMember.dotGeneral_plain_apply (m := 4096) (k := 8192) (n := 4096) none A B i j

end Cert.KernelIdeal.Ring

end
-- ==== Proof.lean ====
/-
  The certificate of the four-device matrix product: the ring kernel and the reference run, end with their arguments unchanged and every
  semaphore at zero, and at exact arithmetic every device ends with the whole product.

  The kernel's run is `Ring.run_main` (Proof/Run.lean), for any float values: each device's result reads, block by block, what the
  device left there. The values are Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value

@[expose] public section

noncomputable section

namespace Cert.Proof

open Idealize.ShloMosaic Idealize.ShloMosaic.TcCoe Idealize.SL.Sem
open Cert.KernelIdeal.Ring

/-- The kernel as it is: its arguments end unchanged and its semaphores at zero. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The kernel at exact arithmetic, the same. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference: its one operation writes no argument, and it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's product of the whole matrices. -/
theorem algebraic : Cert.algebraic_KernelIdeal_ReferenceIdeal := by
  intro m ρ m' ρ' _ hcut
  refine ⟨Host.dotGeneral (F := Ideal) (φ₁ := .f32) (φ₂ := .f32) Cert.ReferenceIdeal.dot_S4096x8192_S8192x4096_S4096x4096_1_0_0_1_n_n none
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨reads_eq hcut c _ _ (reference_apply) (h.1 c).2.2, (h.1 c).1, (h.1 c).2.1⟩) (run_main (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
